-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_and_head [hPre_tokens_and_head : Cert.Pre_tokens_and_head.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_and_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_and_head [hPre_tokens_and_head : Cert.Pre_tokens_and_head.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_and_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_tokens_and_head [hKernelIdeal : Cert.KernelIdeal.Facts] [hPre_tokens_and_head : Cert.Pre_tokens_and_head.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_and_head m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tokens_and_head [hReferenceIdeal : Cert.ReferenceIdeal.Facts] [hPre_tokens_and_head : Cert.Pre_tokens_and_head.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_and_head m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_tokens_and_head [hKernelIdeal : Cert.KernelIdeal.Facts] [hReferenceIdeal : Cert.ReferenceIdeal.Facts] [hPre_tokens_and_head : Cert.Pre_tokens_and_head.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_and_head m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_tokens_and_head : Cert.Pre_tokens_and_head.Facts),
    quiescent_Kernel (hKernel := hKernel)
    ∧ quiescent_KernelIdeal (hKernelIdeal := hKernelIdeal)
    ∧ quiescent_KernelIdeal_pre_tokens_and_head (hKernelIdeal := hKernelIdeal) (hPre_tokens_and_head := hPre_tokens_and_head)
    ∧ quiescent_ReferenceIdeal (hReferenceIdeal := hReferenceIdeal)
    ∧ quiescent_ReferenceIdeal_pre_tokens_and_head (hReferenceIdeal := hReferenceIdeal) (hPre_tokens_and_head := hPre_tokens_and_head)
    ∧ preserves_Kernel_KernelIdeal
    ∧ algebraic_KernelIdeal_ReferenceIdeal_pre_tokens_and_head (hKernelIdeal := hKernelIdeal) (hReferenceIdeal := hReferenceIdeal) (hPre_tokens_and_head := hPre_tokens_and_head)
-- ==== Pre_tokens_and_head.lean ====
abbrev S32x512 : Shape := ⟨2, ![32, 512]⟩
abbrev S256x256 : Shape := ⟨2, ![256, 256]⟩
abbrev S2048x256 : Shape := ⟨2, ![2048, 256]⟩
abbrev S2048x512 : Shape := ⟨2, ![2048, 512]⟩
abbrev S2048 : Shape := ⟨1, ![2048]⟩
abbrev S512 : Shape := ⟨1, ![512]⟩
abbrev S256x512 : Shape := ⟨2, ![256, 512]⟩
abbrev S256 : Shape := ⟨1, ![256]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v10 : IVec S_ 1) (main_v13 : IVec S512 1) (main_v16 : IVec S512 1) : IVec S_ 1 :=
  let main_v17 : IVec S512 1 := ori main_v13 main_v16
  let main_c_5 : IVec S_ 1 := constantI S_ 1 1#1
  let main_v18 : IVec S_ 1 := (fun x v => Host.reduce IntOp.andi x v reducesTo_S512_S_d0 h_S_) main_v17 main_c_5
  let main_v19 : IVec S_ 1 := andi main_v10 main_v18
  main_v19

def fn {F : FTy → Type} [FloatOps F] (main_arg0 : IVec S32x512 32) (main_arg1 : FVec F S256x256 .f32) (main_arg2 : FVec F S2048x256 .f32) (main_arg3 : FVec F S2048x512 .f32) (main_arg4 : FVec F S2048 .f32) (main_arg5 : FVec F S2048 .f32) (main_arg6 : FVec F S512 .f32) (main_arg7 : FVec F S512 .f32) (main_arg8 : FVec F S256x512 .f32) (main_arg9 : FVec F S256 .f32) : IVec S_ 1 :=
  let main_c : IVec S_ 32 := constantI S_ 32 0#32
  let main_v0 : IVec S32x512 32 := broadcastInDim S32x512 ![] bcast_S_S32x512 main_c
  let main_v1 : IVec S32x512 1 := cmpi .sge main_arg0 main_v0
  let main_c_0 : IVec S_ 32 := constantI S_ 32 256#32
  let main_v2 : IVec S32x512 32 := broadcastInDim S32x512 ![] bcast_S_S32x512 main_c_0
  let main_v3 : IVec S32x512 1 := cmpi .slt main_arg0 main_v2
  let main_v4 : IVec S32x512 1 := andi main_v1 main_v3
  let main_c_1 : IVec S_ 1 := constantI S_ 1 1#1
  let main_v5 : IVec S_ 1 := (fun x v => Host.reduce IntOp.andi x v reducesTo_S32x512_S_d0_1 h_S_) main_v4 main_c_1
  let main_v6 : FVec F S256x512 .f32 := Host.absf main_arg8
  let main_cst : FVec F S_ .f32 := constant S_ .f32 0x7F800000#32
  let main_v7 : FVec F S256x512 .f32 := broadcastInDim S256x512 ![] bcast_S_S256x512 main_cst
  let main_v8 : IVec S256x512 1 := cmpf .olt main_v6 main_v7
  let main_c_2 : IVec S_ 1 := constantI S_ 1 1#1
  let main_v9 : IVec S_ 1 := (fun x v => Host.reduce IntOp.andi x v reducesTo_S256x512_S_d0_1 h_S_) main_v8 main_c_2
  let main_v10 : IVec S_ 1 := andi main_v5 main_v9
  let main_v11 : FVec F S512 .f32 := Host.absf main_arg6
  let main_cst_3 : FVec F S_ .f32 := constant S_ .f32 0x7F800000#32
  let main_v12 : FVec F S512 .f32 := broadcastInDim S512 ![] bcast_S_S512 main_cst_3
  let main_v13 : IVec S512 1 := cmpf .olt main_v11 main_v12
  let main_v14 : FVec F S512 .f32 := Host.absf main_arg7
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v10 main_v13 main_v16
-- ==== Kernel.lean ====
abbrev S32x512 : Shape := ⟨2, ![32, 512]⟩
abbrev S256x256 : Shape := ⟨2, ![256, 256]⟩
abbrev S2048x256 : Shape := ⟨2, ![2048, 256]⟩
abbrev S2048x512 : Shape := ⟨2, ![2048, 512]⟩
abbrev S2048 : Shape := ⟨1, ![2048]⟩
abbrev S512 : Shape := ⟨1, ![512]⟩
abbrev S256x512 : Shape := ⟨2, ![256, 512]⟩
abbrev S256 : Shape := ⟨1, ![256]⟩
abbrev S1x2048 : Shape := ⟨2, ![1, 2048]⟩
abbrev S512x32 : Shape := ⟨2, ![512, 32]⟩
abbrev S4x128x32 : Shape := ⟨3, ![4, 128, 32]⟩
abbrev S256x2048 : Shape := ⟨2, ![256, 2048]⟩
abbrev S512x2048 : Shape := ⟨2, ![512, 2048]⟩
abbrev S512x1 : Shape := ⟨2, ![512, 1]⟩
abbrev S512x256 : Shape := ⟨2, ![512, 256]⟩
abbrev S1x256 : Shape := ⟨2, ![1, 256]⟩
abbrev S32x512x256 : Shape := ⟨3, ![32, 512, 256]⟩
abbrev S1x32x512 : Shape := ⟨3, ![1, 32, 512]⟩
abbrev S1x128x32 : Shape := ⟨3, ![1, 128, 32]⟩
abbrev S32x128x256 : Shape := ⟨3, ![32, 128, 256]⟩
abbrev S4096x2048 : Shape := ⟨2, ![4096, 2048]⟩
abbrev S4096x512 : Shape := ⟨2, ![4096, 512]⟩
abbrev S128x32 : Shape := ⟨2, ![128, 32]⟩
abbrev S128x32x1 : Shape := ⟨3, ![128, 32, 1]⟩
abbrev S128x32x256 : Shape := ⟨3, ![128, 32, 256]⟩
abbrev S4096x256 : Shape := ⟨2, ![4096, 256]⟩
abbrev S32x2048 : Shape := ⟨2, ![32, 2048]⟩
abbrev S4096 : Shape := ⟨1, ![4096]⟩
abbrev S4096x1 : Shape := ⟨2, ![4096, 1]⟩

abbrev nBuf : Space → Nat
  | .hbm => 29
  | .vmem => 17
  | .smem => 0
  | _ => 0

abbrev bufTy : (tb : Table) → Fin (tcTables nBuf tb) → BufTy
  | .hbm, ⟨0, _⟩ => ⟨S32x512, .i32⟩
  | .hbm, ⟨1, _⟩ => ⟨S256x256, .f32⟩
  | .hbm, ⟨2, _⟩ => ⟨S2048x256, .f32⟩
  | .hbm, ⟨3, _⟩ => ⟨S2048x512, .f32⟩
  | .hbm, ⟨4, _⟩ => ⟨S2048, .f32⟩
  | .hbm, ⟨5, _⟩ => ⟨S2048, .f32⟩
  | .hbm, ⟨6, _⟩ => ⟨S512, .f32⟩
  | .hbm, ⟨7, _⟩ => ⟨S512, .f32⟩
  | .hbm, ⟨8, _⟩ => ⟨S256x512, .f32⟩
  | .hbm, ⟨9, _⟩ => ⟨S256, .f32⟩
  | .hbm, ⟨10, _⟩ => ⟨S2048, .f32⟩
  | .hbm, ⟨11, _⟩ => ⟨S1x2048, .f32⟩
  | .hbm, ⟨12, _⟩ => ⟨S512x32, .i32⟩
  | .hbm, ⟨13, _⟩ => ⟨S4x128x32, .i32⟩
  | .hbm, ⟨14, _⟩ => ⟨S256x2048, .f32⟩
  | .hbm, ⟨15, _⟩ => ⟨S512x2048, .f32⟩
  | .hbm, ⟨16, _⟩ => ⟨S512x1, .f32⟩
  | .hbm, ⟨17, _⟩ => ⟨S512x256, .f32⟩
  | .hbm, ⟨18, _⟩ => ⟨S512x256, .f32⟩
  | .hbm, ⟨19, _⟩ => ⟨S512x256, .f32⟩
  | .hbm, ⟨20, _⟩ => ⟨S512x256, .f32⟩
  | .hbm, ⟨21, _⟩ => ⟨S256, .f32⟩
  | .hbm, ⟨22, _⟩ => ⟨S256, .f32⟩
  | .hbm, ⟨23, _⟩ => ⟨S1x256, .f32⟩
  | .hbm, ⟨24, _⟩ => ⟨S32x512x256, .f32⟩
  | .hbm, ⟨25, _⟩ => ⟨S32x512, .f32⟩
  | .hbm, ⟨26, _⟩ => ⟨S32x512, .f32⟩
  | .hbm, ⟨27, _⟩ => ⟨S1x32x512, .f32⟩
  | .hbm, ⟨28, _⟩ => ⟨S1x32x512, .f32⟩
  | .local _ .vmem, ⟨0, _⟩ => ⟨S1x128x32, .i32⟩
  | .local _ .vmem, ⟨1, _⟩ => ⟨S1x128x32, .i32⟩
  | .local _ .vmem, ⟨2, _⟩ => ⟨S256x256, .f32⟩
  | .local _ .vmem, ⟨3, _⟩ => ⟨S256x2048, .f32⟩
  | .local _ .vmem, ⟨4, _⟩ => ⟨S512x2048, .f32⟩
  | .local _ .vmem, ⟨5, _⟩ => ⟨S1x2048, .f32⟩
  | .local _ .vmem, ⟨6, _⟩ => ⟨S512x256, .f32⟩
  | .local _ .vmem, ⟨7, _⟩ => ⟨S1x256, .f32⟩
  | .local _ .vmem, ⟨8, _⟩ => ⟨S32x128x256, .f32⟩
  | .local _ .vmem, ⟨9, _⟩ => ⟨S32x128x256, .f32⟩
  | .local _ .vmem, ⟨10, _⟩ => ⟨S32x512, .f32⟩
  | .local _ .vmem, ⟨11, _⟩ => ⟨S32x512, .f32⟩
  | .local _ .vmem, ⟨12, _⟩ => ⟨S256x2048, .f32⟩
  | .local _ .vmem, ⟨13, _⟩ => ⟨S4096x2048, .f32⟩
  | .local _ .vmem, ⟨14, _⟩ => ⟨S4096x512, .f32⟩
  | .local _ .vmem, ⟨15, _⟩ => ⟨S32x512, .f32⟩
  | .local _ .vmem, ⟨16, _⟩ => ⟨S32x512, .f32⟩
  | _, _ => ⟨S32x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_v0_0 : Ref sig .tc := ⟨.hbm, 24, rfl⟩
abbrev main_call0_v14_1 : Ref sig .tc := ⟨.hbm, 25, rfl⟩
abbrev main_call0_v14_2 : Ref sig .tc := ⟨.hbm, 26, rfl⟩
abbrev main_v0_1 : Ref sig .tc := ⟨.hbm, 27, rfl⟩
abbrev main_v0_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_13 : BitVec 32 := 0#32
  let c128_i32 : BitVec 32 := 128#32
  let v21 : BitVec 32 := Scalar.addi c0_i32_13 c128_i32
  let c1_i32 : BitVec 32 := 1#32
  ⟨c0_i32_13, v21, c1_i32⟩
def k0_off1 (k0_t1 : Fin k0_t1_loop.trips) : Fin 2 → Nat :=
  let c0_i32_13 : BitVec 32 := 0#32
  let c1_i32 : BitVec 32 := 1#32
  let arg16 : BitVec 32 := Scf.iv c0_i32_13 c1_i32 k0_t1
  let c32_i32 : BitVec 32 := 32#32
  let v58 : BitVec 32 := Scalar.muli arg16 c32_i32
  let v59 : Index := Scalar.indexCast v58
  let c0_38 : Index := 0#32
  ![v59.toNat, 0]
def k0_off2 (k0_t1 : Fin k0_t1_loop.trips) : Fin 2 → Nat :=
  let c0_i32_13 : BitVec 32 := 0#32
  let c1_i32 : BitVec 32 := 1#32
  let arg16 : BitVec 32 := Scf.iv c0_i32_13 c1_i32 k0_t1
  let c32_i32_49 : BitVec 32 := 32#32
  let v94 : BitVec 32 := Scalar.muli arg16 c32_i32_49
  let v95 : Index := Scalar.indexCast v94
  let c0_50 : Index := 0#32
  ![v95.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S32x512 : Shape := ⟨2, ![32, 512]⟩
abbrev S256x256 : Shape := ⟨2, ![256, 256]⟩
abbrev S2048x256 : Shape := ⟨2, ![2048, 256]⟩
abbrev S2048x512 : Shape := ⟨2, ![2048, 512]⟩
abbrev S2048 : Shape := ⟨1, ![2048]⟩
abbrev S512 : Shape := ⟨1, ![512]⟩
abbrev S256x512 : Shape := ⟨2, ![256, 512]⟩
abbrev S256 : Shape := ⟨1, ![256]⟩
abbrev S_ : Shape := ⟨0, ![]⟩
abbrev S32x512x1 : Shape := ⟨3, ![32, 512, 1]⟩
abbrev S1 : Shape := ⟨1, ![1]⟩
abbrev S1x1x1 : Shape := ⟨3, ![1, 1, 1]⟩
abbrev S32x512x256 : Shape := ⟨3, ![32, 512, 256]⟩
abbrev S512x32x256 : Shape := ⟨3, ![512, 32, 256]⟩
abbrev S512x32x512 : Shape := ⟨3, ![512, 32, 512]⟩
abbrev S1x32x256 : Shape := ⟨3, ![1, 32, 256]⟩
abbrev S32x256 : Shape := ⟨2, ![32, 256]⟩
abbrev S256x2048 : Shape := ⟨2, ![256, 2048]⟩
abbrev S32x2048 : Shape := ⟨2, ![32, 2048]⟩
abbrev S1x2048 : Shape := ⟨2, ![1, 2048]⟩
abbrev S512x2048 : Shape := ⟨2, ![512, 2048]⟩
abbrev S1x32x512 : Shape := ⟨3, ![1, 32, 512]⟩
abbrev S32x512x512 : Shape := ⟨3, ![32, 512, 512]⟩
abbrev S1x1x512 : Shape := ⟨3, ![1, 1, 512]⟩
abbrev S512x256 : Shape := ⟨2, ![512, 256]⟩
abbrev S1x1x256 : Shape := ⟨3, ![1, 1, 256]⟩

abbrev nBuf : Space → Nat
  | .hbm => 144
  | .vmem => 0
  | .smem => 0
  | _ => 0

abbrev hbmTy0_0 (i : Nat) : BufTy := match i % 128 with
  | 0 => ⟨S32x512, .i32⟩
  | 1 => ⟨S256x256, .f32⟩
  | 2 => ⟨S2048x256, .f32⟩
  | 3 => ⟨S2048x512, .f32⟩
  | 4 => ⟨S2048, .f32⟩
  | 5 => ⟨S2048, .f32⟩
  | 6 => ⟨S512, .f32⟩
  | 7 => ⟨S512, .f32⟩
  | 8 => ⟨S256x512, .f32⟩
  | 9 => ⟨S256, .f32⟩
  | 10 => ⟨S_, .i32⟩
  | 11 => ⟨S32x512, .i32⟩
  | 12 => ⟨S32x512, .i1⟩
  | 13 => ⟨S_, .i32⟩
  | 14 => ⟨S32x512, .i32⟩
  | 15 => ⟨S32x512, .i32⟩
  | 16 => ⟨S32x512, .i32⟩
  | 17 => ⟨S32x512x1, .i32⟩
  | 18 => ⟨S1, .i32⟩
  | 19 => ⟨S_, .i32⟩
  | 20 => ⟨S32x512x1, .i32⟩
  | 21 => ⟨S32x512x1, .i1⟩
  | 22 => ⟨S1x1x1, .i32⟩
  | 23 => ⟨S32x512x1, .i32⟩
  | 24 => ⟨S32x512x1, .i1⟩
  | 25 => ⟨S32x512x1, .i1⟩
  | 26 => ⟨S_, .i1⟩
  | 27 => ⟨S32x512, .i1⟩
  | 28 => ⟨S32x512x256, .f32⟩
  | 29 => ⟨S32x512x256, .i1⟩
  | 30 => ⟨S_, .f32⟩
  | 31 => ⟨S32x512x256, .f32⟩
  | 32 => ⟨S32x512x256, .f32⟩
  | 33 => ⟨S_, .f32⟩
  | 34 => ⟨S32x512, .f32⟩
  | 35 => ⟨S_, .f32⟩
  | 36 => ⟨S32x512, .f32⟩
  | 37 => ⟨S512x32x256, .f32⟩
  | 38 => ⟨S_, .f32⟩
  | 39 => ⟨S512x32x512, .f32⟩
  | 40 => ⟨S_, .i32⟩
  | 41 => ⟨S512x32x256, .f32⟩
  | 42 => ⟨S2048x256, .f32⟩
  | 43 => ⟨S2048, .f32⟩
  | 44 => ⟨S2048x512, .f32⟩
  | 45 => ⟨S2048, .f32⟩
  | 46 => ⟨S_, .i32⟩
  | 47 => ⟨S32x512, .f32⟩
  | 48 => ⟨S32x512, .f32⟩
  | 49 => ⟨S512x32x512, .f32⟩
  | 50 => ⟨S_, .i32⟩
  | 51 => ⟨S_, .i1⟩
  | 52 => ⟨S_, .i32⟩
  | 53 => ⟨S_, .i32⟩
  | 54 => ⟨S1x32x256, .f32⟩
  | 55 => ⟨S32x256, .f32⟩
  | 56 => ⟨S256x2048, .f32⟩
  | 57 => ⟨S32x2048, .f32⟩
  | 58 => ⟨S1x2048, .f32⟩
  | 59 => ⟨S32x2048, .f32⟩
  | 60 => ⟨S32x2048, .f32⟩
  | 61 => ⟨S512x2048, .f32⟩
  | 62 => ⟨S32x2048, .f32⟩
  | 63 => ⟨S32x2048, .f32⟩
  | 64 => ⟨S1x2048, .f32⟩
  | 65 => ⟨S32x2048, .f32⟩
  | 66 => ⟨S32x2048, .f32⟩
  | 67 => ⟨S32x512, .f32⟩
  | 68 => ⟨S32x512, .f32⟩
  | 69 => ⟨S32x512, .f32⟩
  | 70 => ⟨S32x512, .f32⟩
  | 71 => ⟨S32x512, .f32⟩
  | 72 => ⟨S32x512, .f32⟩
  | 73 => ⟨S_, .f32⟩
  | 74 => ⟨S32x512, .f32⟩
  | 75 => ⟨S32x512, .f32⟩
  | 76 => ⟨S_, .f32⟩
  | 77 => ⟨S32x512, .f32⟩
  | 78 => ⟨S32x512, .f32⟩
  | 79 => ⟨S32x512, .f32⟩
  | 80 => ⟨S32x512, .f32⟩
  | 81 => ⟨S_, .f32⟩
  | 82 => ⟨S32x512, .f32⟩
  | 83 => ⟨S32x512, .f32⟩
  | 84 => ⟨S_, .f32⟩
  | 85 => ⟨S32x512, .f32⟩
  | 86 => ⟨S32x512, .f32⟩
  | 87 => ⟨S32x512, .f32⟩
  | 88 => ⟨S32x512, .f32⟩
  | 89 => ⟨S32x512, .f32⟩
  | 90 => ⟨S_, .f32⟩
  | 91 => ⟨S32x512, .f32⟩
  | 92 => ⟨S32x512, .f32⟩
  | 93 => ⟨S_, .f32⟩
  | 94 => ⟨S32x512, .f32⟩
  | 95 => ⟨S32x512, .f32⟩
  | 96 => ⟨S32x512, .f32⟩
  | 97 => ⟨S32x512, .f32⟩
  | 98 => ⟨S32x512, .f32⟩
  | 99 => ⟨S32x512, .f32⟩
  | 100 => ⟨S32x512, .f32⟩
  | 101 => ⟨S1x32x512, .f32⟩
  | 102 => ⟨S_, .i32⟩
  | 103 => ⟨S_, .i32⟩
  | 104 => ⟨S512x32x512, .f32⟩
  | 105 => ⟨S_, .i32⟩
  | 106 => ⟨S_, .i32⟩
  | 107 => ⟨S32x512x512, .f32⟩
  | 108 => ⟨S_, .f32⟩
  | 109 => ⟨S32x512, .f32⟩
  | 110 => ⟨S32x512x1, .f32⟩
  | 111 => ⟨S_, .f32⟩
  | 112 => ⟨S32x512x1, .f32⟩
  | 113 => ⟨S32x512x1, .f32⟩
  | 114 => ⟨S32x512x512, .f32⟩
  | 115 => ⟨S32x512x512, .f32⟩
  | 116 => ⟨S32x512x512, .f32⟩
  | 117 => ⟨S_, .f32⟩
  | 118 => ⟨S32x512, .f32⟩
  | 119 => ⟨S32x512x1, .f32⟩
  | 120 => ⟨S_, .f32⟩
  | 121 => ⟨S32x512x1, .f32⟩
  | 122 => ⟨S32x512x1, .f32⟩
  | 123 => ⟨S32x512x512, .f32⟩
  | 124 => ⟨S32x512x512, .f32⟩
  | 125 => ⟨S_, .f32⟩
  | 126 => ⟨S32x512x1, .f32⟩
  | 127 => ⟨S32x512x1, .f32⟩
  | _ => ⟨S32x512, .i32⟩

abbrev hbmTy0_1 (i : Nat) : BufTy := match i % 128 with
  | 0 => ⟨S32x512x1, .f32⟩
  | 1 => ⟨S32x512x512, .f32⟩
  | 2 => ⟨S32x512x512, .f32⟩
  | 3 => ⟨S1x1x512, .f32⟩
  | 4 => ⟨S32x512x512, .f32⟩
  | 5 => ⟨S32x512x512, .f32⟩
  | 6 => ⟨S1x1x512, .f32⟩
  | 7 => ⟨S32x512x512, .f32⟩
  | 8 => ⟨S32x512x512, .f32⟩
  | 9 => ⟨S512x256, .f32⟩
  | 10 => ⟨S32x512x256, .f32⟩
  | 11 => ⟨S1x1x256, .f32⟩
  | 12 => ⟨S32x512x256, .f32⟩
  | 13 => ⟨S32x512x256, .f32⟩
  | 14 => ⟨S1x32x512, .f32⟩
  | 15 => ⟨S1x32x512, .f32⟩
  | _ => ⟨S32x512, .i32⟩

abbrev hbmTy (i : Nat) : BufTy := match i / 128 with
  | 0 => hbmTy0_0 i
  | 1 => hbmTy0_1 i
  | _ => ⟨S32x512, .i32⟩

abbrev bufTy : (tb : Table) → Fin (tcTables nBuf tb) → BufTy
  | .hbm, ⟨i, _⟩ => hbmTy i
  | _, _ => ⟨S32x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_cst : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_cst_1 : Ref sig .tc := ⟨.hbm, 38, rfl⟩
abbrev main_v4 : Ref sig .tc := ⟨.hbm, 39, rfl⟩
abbrev main_c : Ref sig .tc := ⟨.hbm, 40, rfl⟩
abbrev main_v5_0 : Ref sig .tc := ⟨.hbm, 41, rfl⟩
abbrev main_v5_1 : Ref sig .tc := ⟨.hbm, 42, rfl⟩
abbrev main_v5_2 : Ref sig .tc := ⟨.hbm, 43, rfl⟩
abbrev main_v5_3 : Ref sig .tc := ⟨.hbm, 44, rfl⟩
abbrev main_v5_4 : Ref sig .tc := ⟨.hbm, 45, rfl⟩
abbrev main_v5_5 : Ref sig .tc := ⟨.hbm, 46, rfl⟩
abbrev main_v5_6 : Ref sig .tc := ⟨.hbm, 47, rfl⟩
abbrev main_v5_7 : Ref sig .tc := ⟨.hbm, 48, rfl⟩
abbrev main_v5_8 : Ref sig .tc := ⟨.hbm, 49, rfl⟩
abbrev main_while0c_c_15 : Ref sig .tc := ⟨.hbm, 50, rfl⟩
abbrev main_while0c_v38 : Ref sig .tc := ⟨.hbm, 51, rfl⟩
abbrev main_while0b_call1_c : Ref sig .tc := ⟨.hbm, 52, rfl⟩
abbrev main_while0b_call1_c_0 : Ref sig .tc := ⟨.hbm, 53, rfl⟩
abbrev main_while0b_call1_v0 : Ref sig .tc := ⟨.hbm, 54, rfl⟩
abbrev main_while0b_v38 : Ref sig .tc := ⟨.hbm, 55, rfl⟩
abbrev main_while0b_v39 : Ref sig .tc := ⟨.hbm, 56, rfl⟩
abbrev main_while0b_v40 : Ref sig .tc := ⟨.hbm, 57, rfl⟩
abbrev main_while0b_v41 : Ref sig .tc := ⟨.hbm, 58, rfl⟩
abbrev main_while0b_v42 : Ref sig .tc := ⟨.hbm, 59, rfl⟩
abbrev main_while0b_v43 : Ref sig .tc := ⟨.hbm, 60, rfl⟩
abbrev main_while0b_v44 : Ref sig .tc := ⟨.hbm, 61, rfl⟩
abbrev main_while0b_v45 : Ref sig .tc := ⟨.hbm, 62, rfl⟩
abbrev main_while0b_v46 : Ref sig .tc := ⟨.hbm, 63, rfl⟩
abbrev main_while0b_v47 : Ref sig .tc := ⟨.hbm, 64, rfl⟩
abbrev main_while0b_v48 : Ref sig .tc := ⟨.hbm, 65, rfl⟩
abbrev main_while0b_v49 : Ref sig .tc := ⟨.hbm, 66, rfl⟩
abbrev main_while0b_v50 : Ref sig .tc := ⟨.hbm, 67, rfl⟩
abbrev main_while0b_v51 : Ref sig .tc := ⟨.hbm, 68, rfl⟩
abbrev main_while0b_v52 : Ref sig .tc := ⟨.hbm, 69, rfl⟩
abbrev main_while0b_v53 : Ref sig .tc := ⟨.hbm, 70, rfl⟩
abbrev main_while0b_v54 : Ref sig .tc := ⟨.hbm, 71, rfl⟩
abbrev main_while0b_v55 : Ref sig .tc := ⟨.hbm, 72, rfl⟩
abbrev main_while0b_cst_15 : Ref sig .tc := ⟨.hbm, 73, rfl⟩
abbrev main_while0b_v56 : Ref sig .tc := ⟨.hbm, 74, rfl⟩
abbrev main_while0b_v57 : Ref sig .tc := ⟨.hbm, 75, rfl⟩
abbrev main_while0b_cst_16 : Ref sig .tc := ⟨.hbm, 76, rfl⟩
abbrev main_while0b_v58 : Ref sig .tc := ⟨.hbm, 77, rfl⟩
abbrev main_while0b_v59 : Ref sig .tc := ⟨.hbm, 78, rfl⟩
abbrev main_while0b_v60 : Ref sig .tc := ⟨.hbm, 79, rfl⟩
abbrev main_while0b_v61 : Ref sig .tc := ⟨.hbm, 80, rfl⟩
abbrev main_while0b_cst_17 : Ref sig .tc := ⟨.hbm, 81, rfl⟩
abbrev main_while0b_v62 : Ref sig .tc := ⟨.hbm, 82, rfl⟩
abbrev main_while0b_v63 : Ref sig .tc := ⟨.hbm, 83, rfl⟩
abbrev main_while0b_cst_18 : Ref sig .tc := ⟨.hbm, 84, rfl⟩
abbrev main_while0b_v64 : Ref sig .tc := ⟨.hbm, 85, rfl⟩
abbrev main_while0b_v65 : Ref sig .tc := ⟨.hbm, 86, rfl⟩
abbrev main_while0b_v66 : Ref sig .tc := ⟨.hbm, 87, rfl⟩
abbrev main_while0b_v67 : Ref sig .tc := ⟨.hbm, 88, rfl⟩
abbrev main_while0b_v68 : Ref sig .tc := ⟨.hbm, 89, rfl⟩
abbrev main_while0b_cst_19 : Ref sig .tc := ⟨.hbm, 90, rfl⟩
abbrev main_while0b_v69 : Ref sig .tc := ⟨.hbm, 91, rfl⟩
abbrev main_while0b_v70 : Ref sig .tc := ⟨.hbm, 92, rfl⟩
abbrev main_while0b_cst_20 : Ref sig .tc := ⟨.hbm, 93, rfl⟩
abbrev main_while0b_v71 : Ref sig .tc := ⟨.hbm, 94, rfl⟩
abbrev main_while0b_v72 : Ref sig .tc := ⟨.hbm, 95, rfl⟩
abbrev main_while0b_v73 : Ref sig .tc := ⟨.hbm, 96, rfl⟩
abbrev main_while0b_v74 : Ref sig .tc := ⟨.hbm, 97, rfl⟩
abbrev main_while0b_v75 : Ref sig .tc := ⟨.hbm, 98, rfl⟩
abbrev main_while0b_v76 : Ref sig .tc := ⟨.hbm, 99, rfl⟩
abbrev main_while0b_v77 : Ref sig .tc := ⟨.hbm, 100, rfl⟩
abbrev main_while0b_call2_v0 : Ref sig .tc := ⟨.hbm, 101, rfl⟩
abbrev main_while0b_call2_c : Ref sig .tc := ⟨.hbm, 102, rfl⟩
abbrev main_while0b_call2_c_0 : Ref sig .tc := ⟨.hbm, 103, rfl⟩
abbrev main_while0b_v78 : Ref sig .tc := ⟨.hbm, 104, rfl⟩
abbrev main_while0b_c_21 : Ref sig .tc := ⟨.hbm, 105, rfl⟩
abbrev main_while0b_v79 : Ref sig .tc := ⟨.hbm, 106, rfl⟩
abbrev main_v6 : Ref sig .tc := ⟨.hbm, 107, rfl⟩
abbrev main_cst_2 : Ref sig .tc := ⟨.hbm, 108, rfl⟩
abbrev main_v7 : Ref sig .tc := ⟨.hbm, 109, rfl⟩
abbrev main_v8 : Ref sig .tc := ⟨.hbm, 110, rfl⟩
abbrev main_cst_3 : Ref sig .tc := ⟨.hbm, 111, rfl⟩
abbrev main_v9 : Ref sig .tc := ⟨.hbm, 112, rfl⟩
abbrev main_v10 : Ref sig .tc := ⟨.hbm, 113, rfl⟩
abbrev main_v11 : Ref sig .tc := ⟨.hbm, 114, rfl⟩
abbrev main_v12 : Ref sig .tc := ⟨.hbm, 115, rfl⟩
abbrev main_v13 : Ref sig .tc := ⟨.hbm, 116, rfl⟩
abbrev main_cst_4 : Ref sig .tc := ⟨.hbm, 117, rfl⟩
abbrev main_v14 : Ref sig .tc := ⟨.hbm, 118, rfl⟩
abbrev main_v15 : Ref sig .tc := ⟨.hbm, 119, rfl⟩
abbrev main_cst_5 : Ref sig .tc := ⟨.hbm, 120, rfl⟩
abbrev main_v16 : Ref sig .tc := ⟨.hbm, 121, rfl⟩
abbrev main_v17 : Ref sig .tc := ⟨.hbm, 122, rfl⟩
abbrev main_v18 : Ref sig .tc := ⟨.hbm, 123, rfl⟩
abbrev main_v19 : Ref sig .tc := ⟨.hbm, 124, rfl⟩
abbrev main_cst_6 : Ref sig .tc := ⟨.hbm, 125, rfl⟩
abbrev main_v20 : Ref sig .tc := ⟨.hbm, 126, rfl⟩
abbrev main_v21 : Ref sig .tc := ⟨.hbm, 127, rfl⟩
abbrev main_v22 : Ref sig .tc := ⟨.hbm, 128, rfl⟩
abbrev main_v23 : Ref sig .tc := ⟨.hbm, 129, rfl⟩
abbrev main_v24 : Ref sig .tc := ⟨.hbm, 130, rfl⟩
abbrev main_v25 : Ref sig .tc := ⟨.hbm, 131, rfl⟩
abbrev main_v26 : Ref sig .tc := ⟨.hbm, 132, rfl⟩
abbrev main_v27 : Ref sig .tc := ⟨.hbm, 133, rfl⟩
abbrev main_v28 : Ref sig .tc := ⟨.hbm, 134, rfl⟩
abbrev main_v29 : Ref sig .tc := ⟨.hbm, 135, rfl⟩
abbrev main_v30 : Ref sig .tc := ⟨.hbm, 136, rfl⟩
abbrev main_v31 : Ref sig .tc := ⟨.hbm, 137, rfl⟩
abbrev main_v32 : Ref sig .tc := ⟨.hbm, 138, rfl⟩
abbrev main_v33 : Ref sig .tc := ⟨.hbm, 139, rfl⟩
abbrev main_v34 : Ref sig .tc := ⟨.hbm, 140, rfl⟩
abbrev main_v35 : Ref sig .tc := ⟨.hbm, 141, rfl⟩
abbrev main_v36 : Ref sig .tc := ⟨.hbm, 142, rfl⟩
abbrev main_v37 : Ref sig .tc := ⟨.hbm, 143, rfl⟩

abbrev nD : Nat := 1
abbrev τ : Topo := Topo.v7x

variable {F : FTy → Type} [FloatOps F]

abbrev main_while0_count : Scf.Loop 32 := ⟨0#32, 512#32, 1#32⟩
-- ==== Proof.KernelIdeal.Loop.lean ====
/- The kernel's counted loop: 128 LSTM steps over the rows of the gate scratch `arg12`, each step's hidden state stored
   as 32 rows of the scratch `arg13`. -/
module

public import proofs.«01_k».proof.Proof.Gen.KernelIdeal.Frame
public import proofs.«01_k».proof.Proof.Gen.KernelIdeal.Skeleton
public import Idealize.ShloMosaic.Lib.Exec
public import Idealize.ShloMosaic.Lib.Tactic
public import Idealize.ShloMosaic.Lib.WritesUnit
public import Idealize.ShloMosaic.Lib.Pipeline.Value
public import Idealize.ShloMosaic.Lib.ValueIdxCore

@[expose] public section

set_option maxRecDepth 16384

noncomputable section

namespace Cert.KernelIdeal.Lstm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The pair (hidden state, cell state) the loop carries. -/
abbrev Pair (F : FTy → Type) [FloatOps F] : Type := Vec F S32x512 .f32 × Vec F S32x512 .f32

/-- The 32 rows of the gate scratch that step `k` of a block reads: row `32 k + r`. -/
def gateRows (gx : Vec F S4096x2048 .f32) (k : ℕ) : Vec F S32x2048 .f32 :=
  fun x => gx (ValueIdx.ix2 ⟨(32 * k + (x 0).val) % 4096, Nat.mod_lt _ (by decide)⟩ ⟨(x 1).val, (x 1).isLt⟩)

/-- The carried pair after `k` steps of a block: each step takes the block's gate rows, the transposed recurrent
    weights `whh` and the pair before it to the new hidden and cell state. -/
def carry (whh : Vec F S512x2048 .f32) (gx : Vec F S4096x2048 .f32) (p : Pair F) : ℕ → Pair F
  | 0 => p
  | k + 1 => (k0_pay8 whh (carry whh gx p k).1 (carry whh gx p k).2 (gateRows gx k),
      k0_pay7 whh (carry whh gx p k).1 (carry whh gx p k).2 (gateRows gx k))

/-- The hidden states of a block's 128 steps, stacked: row `32 k + r` is row `r` of the hidden state after step `k`. -/
def hidden (whh : Vec F S512x2048 .f32) (gx : Vec F S4096x2048 .f32) (p : Pair F) : Vec F S4096x512 .f32 :=
  fun y => (carry whh gx p ((y 0).val / 32 + 1)).1
    (ValueIdx.ix2 ⟨(y 0).val % 32, Nat.mod_lt _ (by decide)⟩ ⟨(y 1).val, (y 1).isLt⟩)

/-- What the loop holds before trip `k`: the gate scratch at its contents, the hidden-state scratch with the rows of the
    trips before `k` at `hidden`, and the carried pair at `carry`. -/
abbrev inv (c : Dev nD) (arg12 : Memref sig .tc .vmem S4096x2048 .f32) (arg13 : Memref sig .tc .vmem S4096x512 .f32)
    (whh : Vec F S512x2048 .f32) (X : BufTy.Contents (Elt F) arg12.view.ty) (p : Pair F) (k : ℕ) (acc : Pair F) : sProp 𝕄 :=
  iprop((arg12.view.loc (c : Thread nD τ) ↦[arg12.view.set]{fullShare} X)
    ∗ (∃ f, (arg13.view.loc (c : Thread nD τ) ↦[arg13.view.set]{fullShare} f)
        ∗ ⌜∀ y : S4096x512.Idx, (y 0).val < 32 * k → arg13.view.read (Elt F) f y = hidden whh (arg12.view.read (Elt F) X) p y⌝)
    ∗ ⌜acc = carry whh (arg12.view.read (Elt F) X) p k⌝)

/-- The load of trip `k` reads the block's gate rows. -/
theorem readAt_gateRows (arg12 : Memref sig .tc .vmem S4096x2048 .f32) (X : BufTy.Contents (Elt F) arg12.view.ty)
    (k : Fin k0_t1_loop.trips) (hk : k.val < 128) (inb : ∀ a, (k0_off1 k) a + S32x2048.size a ≤ S4096x2048.size a) :
    arg12.view.readAt (Elt F) (Rect.unit (s := S4096x2048) (k0_off1 k) S32x2048.size inb).toLoadRect X
      = gateRows (arg12.view.read (Elt F) X) k.val := by
  funext x
  unfold gateRows
  rw [View.readAt_apply]
  refine congrArg (arg12.view.read (Elt F) X) ?_
  have h0 : (x 0).val < 32 := (x 0).isLt
  funext a
  refine Fin.ext ?_
  show (k0_off1 k) a + 1 * (x a).val = _
  have e : (k0_off1 k) a + 1 * (x a).val = (![32 * k.val, 0] : Fin 2 → ℕ) a + 1 * (x a).val :=
    congrArg (· + 1 * (x a).val) (congrFun (k0_off1_eq k) a)
  refine e.trans ?_
  match a with
  | ⟨0, _⟩ => show 32 * k.val + 1 * (x 0).val = (32 * k.val + (x 0).val) % 4096; omega
  | ⟨1, _⟩ => show 0 + 1 * (x 1).val = (x 1).val; omega

/-- After trip `k` stores its 32 rows, the rows of the trips up to and including `k` hold `hidden`. -/
theorem hidden_step (arg13 : Memref sig .tc .vmem S4096x512 .f32) (whh : Vec F S512x2048 .f32) (gx : Vec F S4096x2048 .f32)
    (p : Pair F) (k : Fin k0_t1_loop.trips) (f : BufTy.Contents (Elt F) arg13.view.ty)
    (hf : ∀ y : S4096x512.Idx, (y 0).val < 32 * k.val → arg13.view.read (Elt F) f y = hidden whh gx p y)
    (inb : ∀ a, (k0_off2 k) a + S32x512.size a ≤ S4096x512.size a) (y : S4096x512.Idx) (hy : (y 0).val < 32 * (k.val + 1)) :
    arg13.view.read (Elt F) (arg13.view.writes (Elt F) f
      [⟨Rect.unit (s := S4096x512) (k0_off2 k) S32x512.size inb,
        k0_pay9 whh (carry whh gx p k.val).1 (carry whh gx p k.val).2 (gateRows gx k.val)⟩]) y = hidden whh gx p y := by
  by_cases h : (y 0).val < 32 * k.val
  · rw [View.read_writes_cons_rows_of_not_mem (d := ![4096, 512]) (o := 32 * k.val) (W := 32) arg13.view f inb _ [] y (k0_off2_eq k) rfl (.inl h)]
    exact hf y h
  · have h1 : (y 1).val < 512 := (y 1).isLt
    have hx0 : (y 0).val = 32 * k.val + (y 0).val % 32 := by omega
    have hq : (y 0).val / 32 = k.val := by omega
    rw [View.read_writes_cons_rows_of_mem (d := ![4096, 512]) (o := 32 * k.val) arg13.view f inb _ [] y
      (ValueIdx.ix2 (n0 := 32) (n1 := 512) ⟨(y 0).val % 32, Nat.mod_lt _ (by decide)⟩ ⟨(y 1).val, (y 1).isLt⟩) (k0_off2_eq k) hx0 rfl]
    unfold k0_pay9 hidden
    rw [hq]
    exact congrFun (shapeCast_self _ _) _

/-- One trip of the loop takes what is held before trip `k` to what is held before trip `k + 1`. -/
theorem trip (𝒱 : Variants) (c : Dev nD) (bd : Option 𝒱.V) (E : Set ℕ) (i : grid0.Coords) (arg1 : Memref sig .tc .vmem S1x128x32 .i32) (harg1 : arg1.IsWhole) (arg2 : Memref sig .tc .vmem S256x256 .f32) (harg2 : arg2.IsWhole) (arg3 : Memref sig .tc .vmem S256x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S32x128x256 .f32) (harg8 : arg8.IsWhole) (arg9 : Memref sig .tc .vmem S32x512 .f32) (harg9 : arg9.IsWhole) (arg10 : Memref sig .tc .vmem S32x512 .f32) (harg10 : arg10.IsWhole) (arg11 : Memref sig .tc .vmem S256x2048 .f32) (harg11 : arg11.IsWhole) (arg12 : Memref sig .tc .vmem S4096x2048 .f32) (harg12 : arg12.IsWhole) (arg13 : Memref sig .tc .vmem S4096x512 .f32) (harg13 : arg13.IsWhole) (arg14 : Memref sig .tc .vmem S32x512 .f32) (harg14 : arg14.IsWhole) (arg15 : Memref sig .tc .vmem S32x512 .f32) (harg15 : arg15.IsWhole)
    (whh : Vec F S512x2048 .f32) (X : BufTy.Contents (Elt F) arg12.view.ty) (p : Pair F) (k : Fin k0_t1_loop.trips) (acc : Pair F) :
    inv c arg12 arg13 whh X p k.val acc
      ⊢ wp frame (wpE (defs₀ (F := F)) 𝒱 (c : Thread nD τ) bd) E
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 whh k acc)
          (fun yld => inv c arg12 arg13 whh X p (k.val + 1) yld) := by
  have hk : k.val < 128 := Nat.lt_of_lt_of_le k.isLt k0_t1_abs.2.1
  iintro ⟨HX, ⟨%f, Hf, %hf⟩, %hacc⟩
  subst hacc
  unfold k0_t1_body
  sl_exec
  sl_step
  isplitl [HX]; · iexact HX
  isplitl [Hf]
  · iexists _; isplitl [Hf]; · iexact Hf
    ipureintro
    rw [readAt_gateRows arg12 X k hk]
    exact hidden_step arg13 whh _ p k f hf _
  ipureintro
  rw [readAt_gateRows arg12 X k hk]
  rfl

set_option warn.classDefReducibility false in
/-- The loop by its invariant `inv`. -/
@[sl_loop] def loopInv (𝒱 : Variants) (c : Dev nD) (bd : Option 𝒱.V) (E : Set ℕ) (i : grid0.Coords) (arg1 : Memref sig .tc .vmem S1x128x32 .i32) (harg1 : arg1.IsWhole) (arg2 : Memref sig .tc .vmem S256x256 .f32) (harg2 : arg2.IsWhole) (arg3 : Memref sig .tc .vmem S256x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S32x128x256 .f32) (harg8 : arg8.IsWhole) (arg9 : Memref sig .tc .vmem S32x512 .f32) (harg9 : arg9.IsWhole) (arg10 : Memref sig .tc .vmem S32x512 .f32) (harg10 : arg10.IsWhole) (arg11 : Memref sig .tc .vmem S256x2048 .f32) (harg11 : arg11.IsWhole) (arg12 : Memref sig .tc .vmem S4096x2048 .f32) (harg12 : arg12.IsWhole) (arg13 : Memref sig .tc .vmem S4096x512 .f32) (harg13 : arg13.IsWhole) (arg14 : Memref sig .tc .vmem S32x512 .f32) (harg14 : arg14.IsWhole) (arg15 : Memref sig .tc .vmem S32x512 .f32) (harg15 : arg15.IsWhole)
    (whh : Vec F S512x2048 .f32) (X : BufTy.Contents (Elt F) arg12.view.ty) (p : Pair F) :
    LoopInv (M := MT nD τ sig Unit (Elt F) ℕ (UR sig nD τ) ℕ) frame (wpE (defs₀ (F := F)) 𝒱 (c : Thread nD τ) bd) E
      k0_t1_loop.lb k0_t1_loop.ub k0_t1_loop.st k0_t1_ok p (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 whh) where
  inv := inv c arg12 arg13 whh X p
  step k acc := trip 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 whh X p k acc

end Cert.KernelIdeal.Lstm

end
-- ==== Proof.KernelIdeal.Body.lean ====
/- One grid point of the kernel: what its body leaves in the output blocks and in the carried scratch. -/
module

public import proofs.«01_k».proof.Proof.KernelIdeal.Loop
public import Idealize.ShloMosaic.Lib.VecWindow

@[expose] public section

set_option maxRecDepth 16384

noncomputable section

namespace Cert.KernelIdeal.Lstm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The pair a block leaves: 128 steps from the pair it starts with. -/
def pairAfter (x0 : Vec F S1x128x32 .i32) (whh : Vec F S512x2048 .f32) (ew : Vec F S256x2048 .f32) (p : Pair F) : Pair F :=
  carry whh (k0_pay5 x0 ew) p 128

/-- The block of logits: layer norm and output head of the block's hidden states. -/
def logits (x0 : Vec F S1x128x32 .i32) (whh : Vec F S512x2048 .f32) (x5 : Vec F S512x256 .f32) (x6 : Vec F S1x256 .f32)
    (ew : Vec F S256x2048 .f32) (p : Pair F) : Vec F S32x128x256 .f32 :=
  k0_pay1 (hidden whh (k0_pay5 x0 ew) p) x5 x6

/-- The body's test for the first grid point. -/
abbrev isFirst (i : grid0.Coords) : Prop :=
  Scalar.cmpi .ne (Scalar.extui (Scalar.cmpi .eq (BitVec.ofNat 32 (i 0).val) 0#32)) 0#32 = 1#1

/-- The token table the steps read: the first point computes it, a later point finds it. -/
def tableAt (i : grid0.Coords) (x1 : Vec F S256x256 .f32) (x2 : Vec F S256x2048 .f32) (x4 : Vec F S1x2048 .f32)
    (ew : Vec F S256x2048 .f32) : Vec F S256x2048 .f32 :=
  if isFirst i then k0_pay2 x1 x2 x4 else ew

/-- The pair the steps start from: zeros at the first point, the carried pair later. -/
def pairAt (i : grid0.Coords) (p : Pair F) : Pair F := if isFirst i then (k0_pay3, k0_pay4) else p

/-- A scratch held with any contents is held with some reading. -/
theorem owns_some (c : Dev nD) {s : Shape} {e : EltTy} (m : Memref sig .tc .vmem s e) (f : Buf (Elt F) (View.loc (c : Thread nD τ) m.view)) :
    (View.loc (c : Thread nD τ) m.view ↦[m.view.set]{fullShare} f : sProp 𝕄)
      ⊢ iprop(∃ d, ∃ f, ⌜m.view.read (Elt F) f = d⌝ ∗ (View.loc (c : Thread nD τ) m.view ↦[m.view.set]{fullShare} f)) := by
  iintro H
  iexists (m.view.read (Elt F) f); iexists f; isplitr
  · ipureintro; rfl
  iexact H

/-- The loop runs 128 trips. -/
theorem trips_eq : Scf.trips k0_t1_loop.lb k0_t1_loop.ub k0_t1_loop.st = 128 := by decide

set_option maxHeartbeats 4000000 in
/-- The body at a grid point: from the carried scratch `ew`, `p` it leaves the block's logits and the
    pair after the block's 128 steps, the pair also carried on. -/
theorem body (c : Dev nD) (i : grid0.Coords) (arg1 : Memref sig .tc .vmem S1x128x32 .i32) (harg1 : arg1.IsWhole) (arg2 : Memref sig .tc .vmem S256x256 .f32) (harg2 : arg2.IsWhole) (arg3 : Memref sig .tc .vmem S256x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S32x128x256 .f32) (harg8 : arg8.IsWhole) (arg9 : Memref sig .tc .vmem S32x512 .f32) (harg9 : arg9.IsWhole) (arg10 : Memref sig .tc .vmem S32x512 .f32) (harg10 : arg10.IsWhole) (arg11 : Memref sig .tc .vmem S256x2048 .f32) (harg11 : arg11.IsWhole) (arg12 : Memref sig .tc .vmem S4096x2048 .f32) (harg12 : arg12.IsWhole) (arg13 : Memref sig .tc .vmem S4096x512 .f32) (harg13 : arg13.IsWhole) (arg14 : Memref sig .tc .vmem S32x512 .f32) (harg14 : arg14.IsWhole) (arg15 : Memref sig .tc .vmem S32x512 .f32) (harg15 : arg15.IsWhole)
    (x0 : Vec F S1x128x32 .i32) (x1 : Vec F S256x256 .f32) (x2 : Vec F S256x2048 .f32) (x3 : Vec F S512x2048 .f32) (x4 : Vec F S1x2048 .f32) (x5 : Vec F S512x256 .f32) (x6 : Vec F S1x256 .f32)
    (ew : Vec F S256x2048 .f32) (p : Pair F) (E : Set ℕ) (K : PUnit → sProp 𝕄) :
    iprop(owns (c : Thread nD τ) arg1 fullShare x0 ∗ owns (c : Thread nD τ) arg2 fullShare x1 ∗ owns (c : Thread nD τ) arg3 fullShare x2
      ∗ owns (c : Thread nD τ) arg4 fullShare x3 ∗ owns (c : Thread nD τ) arg5 fullShare x4 ∗ owns (c : Thread nD τ) arg6 fullShare x5
      ∗ owns (c : Thread nD τ) arg7 fullShare x6 ∗ (∃ d, owns (c : Thread nD τ) arg8 fullShare d) ∗ (∃ d, owns (c : Thread nD τ) arg9 fullShare d)
      ∗ (∃ d, owns (c : Thread nD τ) arg10 fullShare d) ∗ owns (c : Thread nD τ) arg11 fullShare ew ∗ (∃ d, owns (c : Thread nD τ) arg12 fullShare d)
      ∗ (∃ d, owns (c : Thread nD τ) arg13 fullShare d) ∗ owns (c : Thread nD τ) arg14 fullShare p.1 ∗ owns (c : Thread nD τ) arg15 fullShare p.2
      ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare x6
          ∗ owns (c : Thread nD τ) arg8 fullShare (logits x0 x3 x5 x6 (tableAt i x1 x2 x4 ew) (pairAt i p))
          ∗ owns (c : Thread nD τ) arg9 fullShare (pairAfter x0 x3 (tableAt i x1 x2 x4 ew) (pairAt i p)).1
          ∗ owns (c : Thread nD τ) arg10 fullShare (pairAfter x0 x3 (tableAt i x1 x2 x4 ew) (pairAt i p)).2
          ∗ owns (c : Thread nD τ) arg11 fullShare (tableAt i x1 x2 x4 ew)
          ∗ (∃ d, owns (c : Thread nD τ) arg12 fullShare d) ∗ (∃ d, owns (c : Thread nD τ) arg13 fullShare d)
          ∗ owns (c : Thread nD τ) arg14 fullShare (pairAfter x0 x3 (tableAt i x1 x2 x4 ew) (pairAt i p)).1
          ∗ owns (c : Thread nD τ) arg15 fullShare (pairAfter x0 x3 (tableAt i x1 x2 x4 ew) (pairAt i p)).2) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__lstm_kernel_eq_skeleton]; unfold cc0__lstm_kernel_skel; simp only [k0_part1_eq_skeleton]; unfold k0_part1_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, %e8, H8⟩, ⟨%d9, %f9, %e9, H9⟩, ⟨%d10, %f10, %e10, H10⟩, ⟨%f11, %e11, H11⟩, ⟨%d12, %f12, %e12, H12⟩, ⟨%d13, %f13, %e13, H13⟩, ⟨%f14, %e14, H14⟩, ⟨%f15, %e15, H15⟩, Hk⟩
  subst e1 e2 e3 e4 e5 e6 e7
  sl_exec
  have hT : View.readAt (Elt F) arg11.view (Rect.unit ![0, 0] S256x2048.size inb_S256x2048_S256x2048_0_0).toLoadRect
      (if hc : isFirst i then arg11.view.writes (Elt F) f11 [⟨Rect.unit ![0, 0] S256x2048.size inb_S256x2048_S256x2048_0_0,
        k0_pay2 (View.readAt (Elt F) arg2.view (Rect.unit ![0, 0] S256x256.size inb_S256x256_S256x256_0_0).toLoadRect f2)
          (View.readAt (Elt F) arg3.view (Rect.unit ![0, 0] S256x2048.size inb_S256x2048_S256x2048_0_0).toLoadRect f3)
          (View.readAt (Elt F) arg5.view (Rect.unit ![0, 0] S1x2048.size inb_S1x2048_S1x2048_0_0).toLoadRect f5)⟩] else f11)
      = tableAt i (arg2.view.read (Elt F) f2) (arg3.view.read (Elt F) f3) (arg5.view.read (Elt F) f5) ew := by
    unfold tableAt
    split
    · rw [View.readAt_writes_full, View.readAt_full, View.readAt_full, View.readAt_full]
    · rw [View.readAt_full]; exact e11
  have hX : View.read (Elt F) arg12.view (arg12.view.writes (Elt F) arg12.view.junk
        (body.sl.H12_1 c i arg1 arg2 arg3 arg5 arg11 f1 f2 f3 f5 f11))
      = k0_pay5 (arg1.view.read (Elt F) f1) (tableAt i (arg2.view.read (Elt F) f2) (arg3.view.read (Elt F) f3) (arg5.view.read (Elt F) f5) ew) := by
    unfold body.sl.H12_1
    rw [View.read_writes_full, View.readAt_full]
    exact congrArg _ hT
  have hp : (body.sl.v19 c i arg14 f14, body.sl.v20 c i arg15 f15) = pairAt i p := by
    unfold body.sl.v19 body.sl.v20 pairAt
    split
    · rename_i h
      rw [View.readAt_writes_full, View.readAt_writes_full]
      exact (if_pos (show isFirst i from h)).symm
    · rename_i h
      rw [View.readAt_full, View.readAt_full, e14, e15]
      exact (if_neg (show ¬ isFirst i from h)).symm
  rw [hX, hp, View.readAt_full, trips_eq] at hL2
  have hH : View.read (Elt F) arg13.view fL0 = hidden (arg4.view.read (Elt F) f4)
      (k0_pay5 (arg1.view.read (Elt F) f1) (tableAt i (arg2.view.read (Elt F) f2) (arg3.view.read (Elt F) f3) (arg5.view.read (Elt F) f5) ew))
      (pairAt i p) := funext fun y => hL2 y (y 0).isLt
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr
    rotate_left
    · iexact H8
    ipureintro
    rw [View.read_writes_full, View.readAt_full, View.readAt_full, View.readAt_full, hH]
    rfl
  isplitl [H9]
  · iexists _; isplitr
    rotate_left
    · iexact H9
    ipureintro
    rw [View.read_writes_full]
    unfold body.sl.r
    rw [hX, hp, View.readAt_full, trips_eq]
    rfl
  isplitl [H10]
  · iexists _; isplitr
    rotate_left
    · iexact H10
    ipureintro
    rw [View.read_writes_full]
    unfold body.sl.r_1
    rw [hX, hp, View.readAt_full, trips_eq]
    rfl
  isplitl [H11]
  · iexists _; isplitr
    rotate_left
    · iexact H11
    ipureintro
    rw [← View.readAt_full arg11.view _ inb_S256x2048_S256x2048_0_0]
    exact hT
  isplitl [H12]
  · iapply owns_some c arg12; iexact H12
  isplitl [H13]
  · iapply owns_some c arg13; iexact H13
  isplitl [H14]
  · iexists _; isplitr
    rotate_left
    · iexact H14
    ipureintro
    rw [View.read_writes_full, hX, hp, View.readAt_full, trips_eq]
    unfold k0_pay10
    rw [shapeCast_self]
    rfl
  iexists _; isplitr
  rotate_left
  · iexact H15
  ipureintro
  rw [View.read_writes_full, hX, hp, View.readAt_full, trips_eq]
  unfold k0_pay11
  rw [shapeCast_self]
  rfl

end Cert.KernelIdeal.Lstm

end
-- ==== Proof.Math.Scalar.lean ====
/- Facts about single extended reals: the constants the programs spell as bit patterns, the logistic function through
   the hyperbolic tangent, and the values that are real numbers whatever their argument is. -/
module

public import Idealize.ShloMosaic.Lib.IdealHost
public import Mathlib.Analysis.SpecialFunctions.Trigonometric.DerivHyp

@[expose] public section

noncomputable section

namespace Cert.Lstm

open Idealize.ShloMosaic

/-- `x` is a real number: neither of the two infinities. -/
def IsReal (x : EReal) : Prop := ∃ r : ℝ, x = (r : EReal)

/-- A real number is real. -/
theorem IsReal.coe (r : ℝ) : IsReal (r : EReal) := ⟨r, rfl⟩
/-- Zero is real. -/
theorem IsReal.zero : IsReal 0 := ⟨0, rfl⟩
/-- The product of two real numbers is real. -/
theorem IsReal.mul {x y : EReal} : IsReal x → IsReal y → IsReal (x * y) := by
  rintro ⟨r, rfl⟩ ⟨q, rfl⟩; exact ⟨r * q, (EReal.coe_mul r q).symm⟩

/-- The pattern `0x3F000000` is one half. -/
theorem half_eq : Ideal.ofBits .f32 0x3F000000#32 = ((1 / 2 : ℝ) : EReal) := by
  simp [Ideal.ofBits, Ideal.ieee, -EReal.coe_mul]; norm_num

/-- The pattern `0x44000000` is the number of features, 512. -/
theorem feat_eq : Ideal.ofBits .f32 0x44000000#32 = ((512 : ℝ) : EReal) := by
  simp [Ideal.ofBits, Ideal.ieee, -EReal.coe_mul]; norm_num

/-- The number the pattern `0x3727C5AC` denotes, which the layer norm adds to the variance. -/
def epsR : ℝ := (2 ^ 23 + 2606508 : ℕ) * (2 : ℝ) ^ (-40 : ℤ)

/-- The pattern `0x3727C5AC` denotes `epsR`. -/
theorem eps_eq : Ideal.ofBits .f32 0x3727C5AC#32 = (epsR : EReal) := by
  simp [Ideal.ofBits, Ideal.ieee, epsR, -EReal.coe_mul]

/-- The small constant is positive. -/
theorem epsR_pos : 0 < epsR := by unfold epsR; positivity

/-- On the reals, `tanh (x / 2) / 2 + 1 / 2` is the logistic function. -/
theorem half_tanh_real (x : ℝ) : 1 / 2 * Real.tanh (1 / 2 * x) + 1 / 2 = (1 + Real.exp (-x))⁻¹ := by
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add]; simp
  rw [Real.tanh_eq_sinh_div_cosh, Real.sinh_eq, Real.cosh_eq, h1]
  generalize ha : Real.exp (1 / 2 * x) = a at *
  generalize hb : Real.exp (-(1 / 2 * x)) = b at *
  have hap : 0 < a := ha ▸ Real.exp_pos _
  have hbp : 0 < b := hb ▸ Real.exp_pos _
  have hs : a + b ≠ 0 := by positivity
  have ht : 1 + b * b ≠ 0 := by positivity
  field_simp
  linear_combination (2 * b) * h2

/-- Minus one as the image of a real number. -/
theorem neg_one_eq : (-1 : EReal) = ((-1 : ℝ) : EReal) := by rw [EReal.coe_neg]; rfl

/-- The kernel's sigmoid, `0.5 * tanh (0.5 * x) + 0.5`, is the logistic function at every extended real. -/
theorem half_tanh (x : EReal) :
    Ideal.ofBits .f32 0x3F000000#32 * Ideal.tanh (Ideal.ofBits .f32 0x3F000000#32 * x) + Ideal.ofBits .f32 0x3F000000#32
      = Ideal.logistic x := by
  rw [half_eq]
  induction x with
  | bot =>
    rw [EReal.coe_mul_bot_of_pos (by norm_num), Ideal.tanh_bot, Ideal.logistic_bot]
    rw [show (-1 : EReal) = ((-1 : ℝ) : EReal) from neg_one_eq]
    norm_cast; norm_num
  | top =>
    rw [EReal.coe_mul_top_of_pos (by norm_num), Ideal.tanh_top, Ideal.logistic_top]
    rw [show (1 : EReal) = ((1 : ℝ) : EReal) by norm_cast]
    norm_cast; norm_num
  | coe r =>
    rw [← EReal.coe_mul, Ideal.tanh_coe, Ideal.logistic_coe, ← EReal.coe_mul, ← EReal.coe_add, half_tanh_real]

/-- The hyperbolic tangent of any extended real is a real number. -/
theorem IsReal.tanh (x : EReal) : IsReal (Ideal.tanh x) := by
  induction x with
  | bot => exact ⟨-1, by rw [Ideal.tanh_bot]; exact neg_one_eq⟩
  | top => exact ⟨1, by rw [Ideal.tanh_top]; norm_cast⟩
  | coe r => exact ⟨_, Ideal.tanh_coe r⟩

/-- The logistic function of any extended real is a real number. -/
theorem IsReal.logistic (x : EReal) : IsReal (Ideal.logistic x) := by
  induction x with
  | bot => exact ⟨0, by rw [Ideal.logistic_bot]; norm_cast⟩
  | top => exact ⟨1, by rw [Ideal.logistic_top]; norm_cast⟩
  | coe r => exact ⟨_, Ideal.logistic_coe r⟩

/-- Multiplication by a real number distributes over a sum one of whose terms is real. -/
theorem add_mul_coe (a : ℝ) (x : EReal) (w : ℝ) : ((a : EReal) + x) * (w : EReal) = a * w + x * w := by
  induction x with
  | coe r => norm_cast; ring
  | top =>
    rw [EReal.coe_add_top, ← EReal.coe_mul]
    rcases lt_trichotomy w 0 with h | h | h
    · rw [EReal.top_mul_coe_of_neg h, EReal.add_bot]
    · subst h; simp
    · rw [EReal.top_mul_coe_of_pos h, EReal.coe_add_top]
  | bot =>
    rw [EReal.add_bot, ← EReal.coe_mul]
    rcases lt_trichotomy w 0 with h | h | h
    · rw [EReal.bot_mul_coe_of_neg h, EReal.coe_add_top]
    · subst h; simp
    · rw [EReal.bot_mul_coe_of_pos h, EReal.add_bot]

end Cert.Lstm
-- ==== Proof.Math.Spec.lean ====
/- The mathematics of the problem on plain functions: the recurrence of the LSTM, the layer norm of a hidden row, and
   the logits. Both programs are shown to compute it. -/
module

public import proofs.«01_k».proof.Proof.Math.Scalar

@[expose] public section

noncomputable section

namespace Cert.Lstm

open Idealize.ShloMosaic

/-- The arguments of the problem: the table row each token names, the table, the weights and biases of the gates, the
    layer norm's gain and shift, the head's weights and bias. -/
structure Params where
  tok : Fin 32 → Fin 512 → Fin 256
  emb : Fin 256 → Fin 256 → EReal
  wih : Fin 2048 → Fin 256 → EReal
  whh : Fin 2048 → Fin 512 → EReal
  bih : Fin 2048 → EReal
  bhh : Fin 2048 → EReal
  gam : Fin 512 → EReal
  bet : Fin 512 → EReal
  wh : Fin 256 → Fin 512 → EReal
  bh : Fin 256 → EReal

/-- One value per row of the batch and hidden unit. -/
abbrev State : Type := Fin 32 → Fin 512 → EReal

variable (p : Params)

/-- What gate `j` of batch row `b` takes of the token at step `n`, without the biases. -/
def fromToken (n : ℕ) (b : Fin 32) (j : Fin 2048) : EReal :=
  ∑ k : Fin 256, p.emb (p.tok b ⟨n % 512, Nat.mod_lt _ (by decide)⟩) k * p.wih j k

/-- Gate `j` of batch row `b` at step `n`, before its nonlinearity. -/
def gate (n : ℕ) (h : State) (b : Fin 32) (j : Fin 2048) : EReal :=
  fromToken p n b j + p.bih j + ∑ k : Fin 512, h b k * p.whh j k + p.bhh j

/-- The cell state after step `n`. -/
def newC (n : ℕ) (s : State × State) : State := fun b u =>
  Ideal.logistic (gate p n s.1 b ⟨512 + u.val, by omega⟩) * s.2 b u
    + Ideal.logistic (gate p n s.1 b ⟨u.val, by omega⟩) * Ideal.tanh (gate p n s.1 b ⟨1024 + u.val, by omega⟩)

/-- The hidden state after step `n`. -/
def newH (n : ℕ) (s : State × State) : State := fun b u =>
  Ideal.logistic (gate p n s.1 b ⟨1536 + u.val, by omega⟩) * Ideal.tanh (newC p n s b u)

/-- Hidden and cell state after the first `n` steps, both zero at the start. -/
def st : ℕ → State × State
  | 0 => (fun _ _ => 0, fun _ _ => 0)
  | n + 1 => (newH p n (st n), newC p n (st n))

/-- The mean of a hidden row. -/
def mean (x : Fin 512 → EReal) : EReal := Ideal.div (∑ u, x u) (Ideal.ofBits .f32 0x44000000#32)

/-- The variance of a hidden row, plus the layer norm's small constant. -/
def spread (x : Fin 512 → EReal) : EReal :=
  Ideal.div (∑ u, (x u - mean x) * (x u - mean x)) (Ideal.ofBits .f32 0x44000000#32) + Ideal.ofBits .f32 0x3727C5AC#32

/-- The normalised row as the reference computes it: divided by the root. -/
def normed (x : Fin 512 → EReal) (u : Fin 512) : EReal := Ideal.div (x u - mean x) (Ideal.sqrt (spread x))

/-- The logit of vocabulary entry `v` at position `s` of batch row `b`. -/
def logit (b : Fin 32) (s : ℕ) (v : Fin 256) : EReal :=
  ∑ u : Fin 512, (normed ((st p (s + 1)).1 b) u * p.gam u + p.bet u) * p.wh v u + p.bh v

/-- Every hidden state is a real number, whatever the arguments are. -/
theorem st_real : ∀ (n : ℕ) (b : Fin 32) (u : Fin 512), IsReal ((st p n).1 b u)
  | 0, _, _ => IsReal.zero
  | _ + 1, _, _ => (IsReal.logistic _).mul (IsReal.tanh _)

/-- The gate with the two biases added together first, as the kernel's table holds them. -/
theorem gate_table (n : ℕ) (h : State) (b : Fin 32) (j : Fin 2048) :
    fromToken p n b j + (p.bih j + p.bhh j) + ∑ k : Fin 512, h b k * p.whh j k = gate p n h b j := by
  unfold gate; ac_rfl

end Cert.Lstm
-- ==== Proof.Math.Head.lean ====
/- The layer norm and the head: the kernel multiplies by the reciprocal root and folds gain and shift into the head's
   weights and bias; the reference divides, scales, shifts, and then multiplies. The two agree. -/
module

public import proofs.«01_k».proof.Proof.Math.Spec

@[expose] public section

noncomputable section

namespace Cert.Lstm

open Idealize.ShloMosaic

/-- A sum of real numbers is a real number. -/
theorem sum_coe {ι : Type} (s : Finset ι) (f : ι → ℝ) : ∑ u ∈ s, (f u : EReal) = ((∑ u ∈ s, f u : ℝ) : EReal) := by
  classical
  induction s using Finset.induction_on with
  | empty => simp
  | insert a s ha ih => rw [Finset.sum_insert ha, Finset.sum_insert ha, ih, EReal.coe_add]

/-- A sum of real numbers, divided by 512, is a real number. -/
theorem div_feat (f : Fin 512 → ℝ) :
    Ideal.div (∑ u, (f u : EReal)) (Ideal.ofBits .f32 0x44000000#32) = (((∑ u, f u) / 512 : ℝ) : EReal) := by
  rw [feat_eq, Ideal.div, if_neg (by norm_num), ← EReal.coe_inv, div_eq_mul_inv, EReal.coe_mul, sum_coe]

/-- For a real row: multiplying by the reciprocal root is dividing by the root, and the result is real. -/
theorem normed_eq (x : Fin 512 → EReal) (hx : ∀ u, IsReal (x u)) (u : Fin 512) :
    (x u - mean x) * Ideal.rsqrt (spread x) = normed x u ∧ IsReal (normed x u) := by
  choose r hr using hx
  have hm : mean x = (((∑ u, r u) / 512 : ℝ) : EReal) := by
    unfold mean; rw [Finset.sum_congr rfl fun u _ => hr u]; exact div_feat r
  generalize hM : (∑ u, r u) / 512 = M at hm
  have hd : ∀ v, x v - mean x = ((r v - M : ℝ) : EReal) := fun v => by rw [hm, hr v]; exact (EReal.coe_sub _ _).symm
  have hv : spread x = (((∑ v, (r v - M) * (r v - M)) / 512 + epsR : ℝ) : EReal) := by
    unfold spread
    rw [Finset.sum_congr rfl fun v _ => show (x v - mean x) * (x v - mean x) = (((r v - M) * (r v - M) : ℝ) : EReal) by
      rw [hd v]; exact (EReal.coe_mul _ _).symm]
    rw [div_feat, eps_eq]; exact (EReal.coe_add _ _).symm
  have hw : 0 < (∑ v, (r v - M) * (r v - M)) / 512 + epsR := by
    have : 0 ≤ ∑ v, (r v - M) * (r v - M) := Finset.sum_nonneg fun v _ => mul_self_nonneg _
    have := epsR_pos
    positivity
  generalize hW : (∑ v, (r v - M) * (r v - M)) / 512 + epsR = W at hv hw
  have hs : Real.sqrt W ≠ 0 := (Real.sqrt_pos.mpr hw).ne'
  have h1 : normed x u = (((r u - M) * (Real.sqrt W)⁻¹ : ℝ) : EReal) := by
    unfold normed
    rw [hd u, hv, Ideal.sqrt_coe, if_neg (not_lt.mpr hw.le), Ideal.div,
      if_neg (by intro h; exact hs (EReal.coe_eq_zero.mp h)), ← EReal.coe_inv, ← EReal.coe_mul]
  refine ⟨?_, _, h1⟩
  rw [h1, hd u, hv, Ideal.rsqrt_coe, if_neg (not_lt.mpr hw.le), if_neg hw.ne', ← EReal.coe_mul]

/-- One feature of the head: gain and shift folded into a real weight, or applied before it. -/
theorem head_term {n γ β w : EReal} (hn : IsReal n) (hw : IsReal w) (h : IsReal γ ∨ IsReal β) :
    n * (γ * w) + β * w = (n * γ + β) * w := by
  obtain ⟨w, rfl⟩ := hw
  rcases h with h | ⟨β, rfl⟩
  · obtain ⟨a, ha⟩ := hn.mul h
    rw [← mul_assoc, ha, add_mul_coe]
  · rw [← mul_assoc, add_comm, add_comm (n * γ), add_mul_coe]

/-- The head: gain and shift folded into the weights and the bias, or applied before them. -/
theorem head_eq (n γ β w : Fin 512 → EReal) (b : EReal) (hn : ∀ u, IsReal (n u)) (hw : ∀ u, IsReal (w u))
    (h : ∀ u, IsReal (γ u) ∨ IsReal (β u)) :
    ∑ u, n u * (γ u * w u) + (b + ∑ u, β u * w u) = ∑ u, (n u * γ u + β u) * w u + b := by
  rw [Finset.sum_congr rfl fun u _ => (head_term (hn u) (hw u) (h u)).symm, Finset.sum_add_distrib]
  ac_rfl

/-- The logit as the kernel computes it. -/
theorem logit_kernel (p : Params) (hw : ∀ v u, IsReal (p.wh v u)) (h : ∀ u, IsReal (p.gam u) ∨ IsReal (p.bet u))
    (b : Fin 32) (s : ℕ) (v : Fin 256) (x : Fin 512 → EReal) (hx : x = (st p (s + 1)).1 b) :
    ∑ u, (x u - mean x) * Ideal.rsqrt (spread x) * (p.gam u * p.wh v u) + (p.bh v + ∑ u, p.bet u * p.wh v u)
      = logit p b s v := by
  subst hx
  have hr := normed_eq _ (st_real p (s + 1) b)
  unfold logit
  rw [← head_eq _ _ _ _ _ (fun u => (hr u).2) (hw v) h]
  exact congrArg (· + _) (Finset.sum_congr rfl fun u _ => congrArg (· * _) (hr u).1)

end Cert.Lstm
-- ==== Proof.KernelIdeal.Block.lean ====
/- What one block of the kernel computes, in the terms of the mathematics: the one-hot product picks a row of the token
   table, a step takes the pair to the next one, and the head gives the logits. -/
module

public import proofs.«01_k».proof.Proof.KernelIdeal.Body
public import proofs.«01_k».proof.Proof.Math.Head
public import Idealize.ShloMosaic.Lib.Pointwise
public import Idealize.ShloMosaic.Lib.Tactic.CleanTypes

@[expose] public section

set_option maxRecDepth 16384

noncomputable section

namespace Cert.KernelIdeal.Lstm

open Cert.KernelIdeal.Gen Cert.Lstm
open Idealize.ShloMosaic

/-- A widened one bit, converted, is one. -/
theorem bit_one : FloatOps.sitofp (F := Ideal) .f32 (BitVec.setWidth 32 1#1) = (1 : EReal) := by
  show (((BitVec.setWidth 32 1#1).toInt : ℝ) : EReal) = 1
  rw [show (BitVec.setWidth 32 1#1).toInt = 1 by decide]; norm_num
/-- A widened zero bit, converted, is zero. -/
theorem bit_zero : FloatOps.sitofp (F := Ideal) .f32 (BitVec.setWidth 32 0#1) = (0 : EReal) := by
  show (((BitVec.setWidth 32 0#1).toInt : ℝ) : EReal) = 0
  rw [show (BitVec.setWidth 32 0#1).toInt = 0 by decide]; norm_num

/-- The one-hot product: row `r` of the gate scratch is the table's row that the token of step `r / 32`, batch row
    `r % 32`, names. -/
theorem pay5_apply (x : Vec Ideal S1x128x32 .i32) (t : Vec Ideal S256x2048 .f32) (r : Fin 4096) (j : Fin 2048) (k : Fin 256)
    (h : x (ix3 0 ⟨r.val / 32, by omega⟩ ⟨r.val % 32, by omega⟩) = BitVec.ofNat 32 k.val) :
    k0_pay5 x t (ix2 r j) = t (ix2 k j) := by
  pointwise [k0_pay5]
  clean_types
  simp only [h]
  rw [Finset.sum_eq_single k]
  · simp only [IntOp.cmpi, BEq.rfl, BitVec.ofBool_true]
    exact (congrArg (· * t (ix2 k j)) bit_one).trans (one_mul _)
  · intro y _ hy
    have hne : ¬ BitVec.ofNat 32 k.val = BitVec.ofNat 32 y.val := by
      intro e
      have := congrArg BitVec.toNat e
      simp only [BitVec.toNat_ofNat] at this
      exact hy (Fin.ext (by omega))
    simp only [IntOp.cmpi, beq_eq_false_iff_ne.mpr hne, BitVec.ofBool_false]
    exact (congrArg (· * t (ix2 y j)) bit_zero).trans (zero_mul _)
  · simp

/-- The token table: the embedding table through the input weights, plus both biases. -/
theorem pay2_apply (x1 : Vec Ideal S256x256 .f32) (x2 : Vec Ideal S256x2048 .f32) (x4 : Vec Ideal S1x2048 .f32)
    (r : Fin 256) (j : Fin 2048) :
    k0_pay2 x1 x2 x4 (ix2 r j) = ∑ k : Fin 256, x1 (ix2 r k) * x2 (ix2 k j) + x4 (ix2 0 j) := by
  pointwise [k0_pay2]

/-- The pair of arrays `q` holds the pair of states `s`. -/
def Holds (q : Pair Ideal) (s : State × State) : Prop :=
  ∀ (b : Fin 32) (u : Fin 512), q.1 (ix2 b u) = s.1 b u ∧ q.2 (ix2 b u) = s.2 b u

/-- The zero arrays the first point stores hold the starting states. -/
theorem holds_zero (p : Params) : Holds (k0_pay3 (F := Ideal), k0_pay4 (F := Ideal)) (st p 0) := fun b u =>
  ⟨by pointwise [k0_pay3, st], by pointwise [k0_pay4, st]⟩

variable {p : Params}

/-- One step: from the pair before step `n` and the step's rows of the gate scratch to the pair after it. -/
theorem step_holds {n : ℕ} {whh : Vec Ideal S512x2048 .f32} {q : Pair Ideal} {rows : Vec Ideal S32x2048 .f32}
    (hw : ∀ (k : Fin 512) (j : Fin 2048), whh (ix2 k j) = p.whh j k) (hq : Holds q (st p n))
    (hr : ∀ (b : Fin 32) (j : Fin 2048), rows (ix2 b j) = fromToken p n b j + (p.bih j + p.bhh j)) :
    Holds (k0_pay8 whh q.1 q.2 rows, k0_pay7 whh q.1 q.2 rows) (st p (n + 1)) := by
  have hg : ∀ (b : Fin 32) (j : Fin 2048),
      rows (ix2 b j) + ∑ k : Fin 512, q.1 (ix2 b k) * whh (ix2 k j) = gate p n (st p n).1 b j := fun b j => by
    rw [hr, ← gate_table]
    exact congrArg (_ + ·) (Finset.sum_congr rfl fun k _ => by rw [hw, (hq b k).1])
  have hc : ∀ (b : Fin 32) (u : Fin 512), k0_pay7 whh q.1 q.2 rows (ix2 b u) = newC p n (st p n) b u := fun b u => by
    pointwise [k0_pay7, k0_pay6]
    rw [hg, hg, hg, half_tanh, half_tanh, (hq b u).2]
    rfl
  intro b u
  refine ⟨?_, hc b u⟩
  show k0_pay8 whh q.1 q.2 rows (ix2 b u) = newH p n (st p n) b u
  pointwise [k0_pay8, k0_pay6]
  rw [hg, half_tanh, hc]
  rfl

/-- The loop: `k` steps from step `n`. -/
theorem carry_holds {n : ℕ} {whh : Vec Ideal S512x2048 .f32} {gx : Vec Ideal S4096x2048 .f32} {q : Pair Ideal}
    (hw : ∀ (k : Fin 512) (j : Fin 2048), whh (ix2 k j) = p.whh j k) (hq : Holds q (st p n))
    (hr : ∀ (r : Fin 4096) (j : Fin 2048), gx (ix2 r j)
      = fromToken p (n + r.val / 32) ⟨r.val % 32, by omega⟩ j + (p.bih j + p.bhh j)) :
    ∀ k ≤ 128, Holds (carry whh gx q k) (st p (n + k))
  | 0, _ => hq
  | k + 1, hk => by
    refine step_holds hw (carry_holds hw hq hr k (by omega)) fun b j => ?_
    have e : gateRows gx k (ix2 b j) = gx (ix2 ⟨(32 * k + b.val) % 4096, Nat.mod_lt _ (by decide)⟩ j) := by
      simp only [gateRows, ← ix2_eq_valueIdx]; rfl
    rw [e, hr]
    have e1 : (32 * k + b.val) % 4096 / 32 = k := by omega
    have e2 : (32 * k + b.val) % 4096 % 32 = b.val := by omega
    simp only [e1, e2]
    rfl

/-- The block's logits at batch row `b`, step `k`, vocabulary entry `v`. -/
theorem logits_apply {n : ℕ} {x0 : Vec Ideal S1x128x32 .i32} {whh : Vec Ideal S512x2048 .f32} {x5 : Vec Ideal S512x256 .f32}
    {x6 : Vec Ideal S1x256 .f32} {ew : Vec Ideal S256x2048 .f32} {q : Pair Ideal}
    (hc : ∀ k ≤ 128, Holds (carry whh (k0_pay5 x0 ew) q k) (st p (n + k)))
    (h5 : ∀ (u : Fin 512) (v : Fin 256), x5 (ix2 u v) = p.gam u * p.wh v u)
    (h6 : ∀ v : Fin 256, x6 (ix2 0 v) = p.bh v + ∑ u : Fin 512, p.bet u * p.wh v u)
    (hwh : ∀ v u, IsReal (p.wh v u)) (hgb : ∀ u, IsReal (p.gam u) ∨ IsReal (p.bet u))
    (b : Fin 32) (k : Fin 128) (v : Fin 256) :
    logits x0 whh x5 x6 ew q (ix3 b k v) = logit p b (n + k.val) v := by
  have hx : ∀ u : Fin 512, hidden whh (k0_pay5 x0 ew) q (ix2 ⟨k.val * 32 + b.val, by omega⟩ u) = (st p (n + k.val + 1)).1 b u :=
    fun u => by
      rw [show n + k.val + 1 = n + (k.val + 1) from rfl, ← (hc (k.val + 1) (by omega) b u).1]
      have e1 : (k.val * 32 + b.val) / 32 = k.val := by omega
      have e2 : (k.val * 32 + b.val) % 32 = b.val := by omega
      simp only [hidden, ← ix2_eq_valueIdx]
      show (carry whh (k0_pay5 x0 ew) q ((k.val * 32 + b.val) / 32 + 1)).1 (ix2 ⟨(k.val * 32 + b.val) % 32, _⟩ u) = _
      simp only [e1, e2]
  unfold logits
  pointwise [k0_pay1]
  simp only [hx, h5, h6]
  exact logit_kernel p hwh hgb b (n + k.val) v _ rfl

end Cert.KernelIdeal.Lstm
-- ==== Proof.KernelIdeal.Launch.lean ====
/- The launch: the body at every grid point, the scratch carried from point to point, and the run of the whole program. -/
module

public import proofs.«01_k».proof.Proof.KernelIdeal.Body
public import Idealize.ShloMosaic.Lib.Claim

@[expose] public section

set_option maxRecDepth 16384

noncomputable section

namespace Cert.KernelIdeal.Lstm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch -/

/-- The scratch of the token table. -/
abbrev tabM : Memref sig .tc .vmem S256x2048 .f32 := Memref.whole cc0_scratch0
/-- The scratch of the block's gate rows. -/
abbrev rowsM : Memref sig .tc .vmem S4096x2048 .f32 := Memref.whole cc0_scratch1
/-- The scratch of the block's hidden states. -/
abbrev hidM : Memref sig .tc .vmem S4096x512 .f32 := Memref.whole cc0_scratch2
/-- The scratch of the hidden state. -/
abbrev hM : Memref sig .tc .vmem S32x512 .f32 := Memref.whole cc0_scratch3
/-- The scratch of the cell state. -/
abbrev cM : Memref sig .tc .vmem S32x512 .f32 := Memref.whole cc0_scratch4

/-- The class invariant of the region with the scratch buffers as memrefs held at some contents. -/
theorem PhiA_eq (c : Dev nD) :
    (Pipeline.ΦA spec0 c : sProp 𝕄)
      = iprop(iprop((∃ d, owns (c : Thread nD τ) tabM fullShare d) ∗ (∃ d, owns (c : Thread nD τ) rowsM fullShare d) ∗ (∃ d, owns (c : Thread nD τ) hidM fullShare d) ∗ (∃ d, owns (c : Thread nD τ) hM fullShare d) ∗ (∃ d, owns (c : Thread nD τ) cM fullShare d)) ∗ (∃ r, prngReg c r)) := by
  unfold Pipeline.ΦA; rw [scopedRest0_eq]; simp only [tabM, rowsM, hidM, hM, cM, owns_whole]; try rfl

/-- The grid has a point. -/
theorem N_pos : 0 < cfg0.N := by rw [show cfg0.N = 4 from N_0]; decide

/-- The token table: computed at the first point and carried through the launch. -/
def table (c : Dev nD) : Vec F S256x2048 .f32 :=
  k0_pay2 (iblk m c 1 ⟨0, N_pos⟩) (iblk m c 2 ⟨0, N_pos⟩) (iblk m c 4 ⟨0, N_pos⟩)

/-- The pair of hidden and cell states before point `n`: zeros, then what each point's 128 steps leave. -/
def pairBefore (c : Dev nD) : (n : ℕ) → n ≤ cfg0.N → Pair F
  | 0, _ => (k0_pay3, k0_pay4)
  | n + 1, h => pairAfter (iblk m c 0 ⟨n, h⟩) (iblk m c 3 ⟨n, h⟩) (table m c) (pairBefore c n (Nat.le_of_lt h))

/-- The pair after point `t`. -/
abbrev pairOut (c : Dev nD) (t : Fin cfg0.N) : Pair F := pairBefore m c (t.val + 1) t.isLt

/-- The block of logits point `t` leaves. -/
def logitsOut (c : Dev nD) (t : Fin cfg0.N) : Vec F S32x128x256 .f32 :=
  logits (iblk m c 0 t) (iblk m c 3 t) (iblk m c 5 t) (iblk m c 6 t) (table m c) (pairBefore m c t.val (Nat.le_of_lt t.isLt))

/-- The region's invariant before point `n`: every scratch at anything before the first point; afterwards the table and the
    pair at their values. -/
def Phi (c : Dev nD) : (n : ℕ) → n ≤ cfg0.N → sProp 𝕄
  | 0, _ => Pipeline.ΦA spec0 c
  | n + 1, hn => iprop(iprop(owns (c : Thread nD τ) tabM fullShare (table m c) ∗ (∃ d, owns (c : Thread nD τ) rowsM fullShare d) ∗ (∃ d, owns (c : Thread nD τ) hidM fullShare d) ∗ owns (c : Thread nD τ) hM fullShare (pairBefore m c (n + 1) hn).1 ∗ owns (c : Thread nD τ) cM fullShare (pairBefore m c (n + 1) hn).2) ∗ (∃ r, prngReg c r))

/-- Before the first point the invariant asks nothing of the scratch contents. -/
theorem Phi_zero (c : Dev nD) (n : ℕ) (h : n ≤ cfg0.N) (hz : n = 0) : Phi m c n h = Pipeline.ΦA spec0 c := by
  subst hz; rfl

/-- Before a later point the invariant holds the table and the pair at their values. -/
theorem Phi_pos (c : Dev nD) (n : ℕ) (h : n ≤ cfg0.N) (hz : n ≠ 0) :
    Phi m c n h = iprop(iprop(owns (c : Thread nD τ) tabM fullShare (table m c) ∗ (∃ d, owns (c : Thread nD τ) rowsM fullShare d) ∗ (∃ d, owns (c : Thread nD τ) hidM fullShare d) ∗ owns (c : Thread nD τ) hM fullShare (pairBefore m c n h).1 ∗ owns (c : Thread nD τ) cM fullShare (pairBefore m c n h).2) ∗ (∃ r, prngReg c r)) := by
  cases n with
  | zero => exact absurd rfl hz
  | succ n => rfl

/-! ## The proof data -/

/-- The arrays as the region finds them; each input's block left in place, the outputs at `logitsOut` and `pairOut`; the
    invariant `Phi`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => logitsOut m c t
    | ⟨8, _⟩ => (pairOut m c t).1
    | ⟨9, _⟩ => (pairOut m c t).2
  Φ t := Phi m c t.val (Nat.le_of_lt_succ t.isLt)
  q _ := fullShare
  owed _ := 0

/-- The array of a window is what the region finds. -/
theorem A_eq (c : Dev nD) (w : Fin cfg0.W) : (dats m 0 c).A w = V m c (Pipeline.arrRef spec0 w) := by
  dsimp only [dats]

/-- The invariant before a point, by the point's number. -/
theorem Phi_castSucc (c : Dev nD) (t : Fin cfg0.N) :
    (dats m 0 c).Φ t.castSucc = Phi m c t.val (Nat.le_of_lt t.isLt) := by
  dsimp only [dats]; exact Pipeline.Dat.Φ_castSucc (Phi m c) t

/-- After a point the staging buffer of the tokens still holds its block. -/
theorem after_0 (c : Dev nD) (t : Fin cfg0.N) : (dats m 0 c).after 0 t = iblk m c 0 t := by dsimp only [dats]
/-- After a point the staging buffer of the embedding table still holds its block. -/
theorem after_1 (c : Dev nD) (t : Fin cfg0.N) : (dats m 0 c).after 1 t = iblk m c 1 t := by dsimp only [dats]
/-- After a point the staging buffer of the token weights still holds its block. -/
theorem after_2 (c : Dev nD) (t : Fin cfg0.N) : (dats m 0 c).after 2 t = iblk m c 2 t := by dsimp only [dats]
/-- After a point the staging buffer of the state weights still holds its block. -/
theorem after_3 (c : Dev nD) (t : Fin cfg0.N) : (dats m 0 c).after 3 t = iblk m c 3 t := by dsimp only [dats]
/-- After a point the staging buffer of the gates' biases still holds its block. -/
theorem after_4 (c : Dev nD) (t : Fin cfg0.N) : (dats m 0 c).after 4 t = iblk m c 4 t := by dsimp only [dats]
/-- After a point the staging buffer of the head's weights still holds its block. -/
theorem after_5 (c : Dev nD) (t : Fin cfg0.N) : (dats m 0 c).after 5 t = iblk m c 5 t := by dsimp only [dats]
/-- After a point the staging buffer of the head's bias still holds its block. -/
theorem after_6 (c : Dev nD) (t : Fin cfg0.N) : (dats m 0 c).after 6 t = iblk m c 6 t := by dsimp only [dats]
/-- After a point the staging buffer of the logits holds what the point computed. -/
theorem after_7 (c : Dev nD) (t : Fin cfg0.N) : (dats m 0 c).after 7 t = logitsOut m c t := by dsimp only [dats]
/-- After a point the staging buffer of the hidden state holds what the point computed. -/
theorem after_8 (c : Dev nD) (t : Fin cfg0.N) : (dats m 0 c).after 8 t = (pairOut m c t).1 := by dsimp only [dats]
/-- After a point the staging buffer of the cell state holds what the point computed. -/
theorem after_9 (c : Dev nD) (t : Fin cfg0.N) : (dats m 0 c).after 9 t = (pairOut m c t).2 := by dsimp only [dats]

/-! Each input's staging buffer holds its block at every point. -/

/-- Before a point the staging buffer of the tokens holds its block. -/
theorem before_0 (c : Dev nD) (t : Fin cfg0.N) (d) : (dats m 0 c).before 0 t d = iblk m c 0 t :=
  before0_0_of m (dats m 0 c) (A_eq m c 0) (after_0 m c) t d
/-- Before a point the staging buffer of the embedding table holds its block. -/
theorem before_1 (c : Dev nD) (t : Fin cfg0.N) (d) : (dats m 0 c).before 1 t d = iblk m c 1 t :=
  before0_1_of m (dats m 0 c) (A_eq m c 1) (after_1 m c) t d
/-- Before a point the staging buffer of the token weights holds its block. -/
theorem before_2 (c : Dev nD) (t : Fin cfg0.N) (d) : (dats m 0 c).before 2 t d = iblk m c 2 t :=
  before0_2_of m (dats m 0 c) (A_eq m c 2) (after_2 m c) t d
/-- Before a point the staging buffer of the state weights holds its block. -/
theorem before_3 (c : Dev nD) (t : Fin cfg0.N) (d) : (dats m 0 c).before 3 t d = iblk m c 3 t :=
  before0_3_of m (dats m 0 c) (A_eq m c 3) (after_3 m c) t d
/-- Before a point the staging buffer of the gates' biases holds its block. -/
theorem before_4 (c : Dev nD) (t : Fin cfg0.N) (d) : (dats m 0 c).before 4 t d = iblk m c 4 t :=
  before0_4_of m (dats m 0 c) (A_eq m c 4) (after_4 m c) t d
/-- Before a point the staging buffer of the head's weights holds its block. -/
theorem before_5 (c : Dev nD) (t : Fin cfg0.N) (d) : (dats m 0 c).before 5 t d = iblk m c 5 t :=
  before0_5_of m (dats m 0 c) (A_eq m c 5) (after_5 m c) t d
/-- Before a point the staging buffer of the head's bias holds its block. -/
theorem before_6 (c : Dev nD) (t : Fin cfg0.N) (d) : (dats m 0 c).before 6 t d = iblk m c 6 t :=
  before0_6_of m (dats m 0 c) (A_eq m c 6) (after_6 m c) t d

/-! ## The first point's test -/

/-- The body's test for the first point holds at point 0 alone. -/
theorem isFirst_iff (t : Fin cfg0.N) : isFirst (grid0.coords t) ↔ t.val = 0 := by
  have ht : t.val < 4 := Nat.lt_of_lt_of_eq t.isLt N_0
  have e0 : (grid0.coords t 0).val = t.val / 1 % 4 := Pipeline.Grid.coords_val t 0 (by decide) rfl
  have h : isFirst (grid0.coords t) ↔ t.val % 4 = 0 := by
    simp only [isFirst, e0]
    word_cmp
  rw [h, Nat.mod_eq_of_lt ht]

/-- At the first point the table is computed, whatever the scratch held. -/
theorem tableAt_first (c : Dev nD) (t : Fin cfg0.N) (h : t.val = 0) (ew : Vec F S256x2048 .f32) :
    tableAt (grid0.coords t) (iblk m c 1 t) (iblk m c 2 t) (iblk m c 4 t) ew = table m c := by
  have e : t = ⟨0, N_pos⟩ := Fin.ext h
  subst e
  exact if_pos ((isFirst_iff _).mpr rfl)

/-- At the first point the pair is set to zeros, whatever the scratch held. -/
theorem pairAt_first (c : Dev nD) (t : Fin cfg0.N) (h : t.val = 0) (p : Pair F) :
    pairAt (grid0.coords t) p = pairBefore m c t.val (Nat.le_of_lt t.isLt) := by
  have e : t = ⟨0, N_pos⟩ := Fin.ext h
  subst e
  exact if_pos ((isFirst_iff _).mpr rfl)

/-- At a later point the table is kept. -/
theorem tableAt_later (c : Dev nD) (t : Fin cfg0.N) (h : t.val ≠ 0) :
    tableAt (grid0.coords t) (iblk m c 1 t) (iblk m c 2 t) (iblk m c 4 t) (table m c) = table m c :=
  if_neg fun h' => h ((isFirst_iff t).mp h')

/-- At a later point the pair is kept. -/
theorem pairAt_later (c : Dev nD) (t : Fin cfg0.N) (h : t.val ≠ 0) (p : Pair F) : pairAt (grid0.coords t) p = p :=
  if_neg fun h' => h ((isFirst_iff t).mp h')

/-! ## The body at a point -/

/-! The memref each window's block is staged in at a point. -/

/-- Where the block of the tokens is staged at a point. -/
abbrev ms0_0 (t : Fin cfg0.N) : Memref sig .tc .vmem S1x128x32 .i32 := win0_0.stage (cfg0.slots t 0)
/-- Where the block of the embedding table is staged at a point. -/
abbrev ms0_1 (t : Fin cfg0.N) : Memref sig .tc .vmem S256x256 .f32 := win0_1.stage (cfg0.slots t 1)
/-- Where the block of the token weights is staged at a point. -/
abbrev ms0_2 (t : Fin cfg0.N) : Memref sig .tc .vmem S256x2048 .f32 := win0_2.stage (cfg0.slots t 2)
/-- Where the block of the state weights is staged at a point. -/
abbrev ms0_3 (t : Fin cfg0.N) : Memref sig .tc .vmem S512x2048 .f32 := win0_3.stage (cfg0.slots t 3)
/-- Where the block of the gates' biases is staged at a point. -/
abbrev ms0_4 (t : Fin cfg0.N) : Memref sig .tc .vmem S1x2048 .f32 := win0_4.stage (cfg0.slots t 4)
/-- Where the block of the head's weights is staged at a point. -/
abbrev ms0_5 (t : Fin cfg0.N) : Memref sig .tc .vmem S512x256 .f32 := win0_5.stage (cfg0.slots t 5)
/-- Where the block of the head's bias is staged at a point. -/
abbrev ms0_6 (t : Fin cfg0.N) : Memref sig .tc .vmem S1x256 .f32 := win0_6.stage (cfg0.slots t 6)
/-- Where the block of the logits is staged at a point. -/
abbrev ms0_7 (t : Fin cfg0.N) : Memref sig .tc .vmem S32x128x256 .f32 := win0_7.stage (cfg0.slots t 7)
/-- Where the block of the hidden state is staged at a point. -/
abbrev ms0_8 (t : Fin cfg0.N) : Memref sig .tc .vmem S32x512 .f32 := win0_8.stage (cfg0.slots t 8)
/-- Where the block of the cell state is staged at a point. -/
abbrev ms0_9 (t : Fin cfg0.N) : Memref sig .tc .vmem S32x512 .f32 := win0_9.stage (cfg0.slots t 9)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 4000000 in
/-- The body at any point takes the invariant before the point to the invariant after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6, after_7, after_8, after_9]
  rw [show (dats m 0 c).Φ t.succ = Phi m c (t.val + 1) t.isLt from rfl, Phi_pos m c _ _ (Nat.succ_ne_zero _)]
  by_cases hz : t.val = 0
  · rw [Phi_castSucc m c t, Phi_zero m c _ _ hz, PhiA_eq]
    iintro ⟨⟨⟨⟨%ds0, HS0⟩, HS1, HS2, ⟨%ds3, HS3⟩, ⟨%ds4, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ds0 (ds3, ds4) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    isplitl [HS4]; · iexact HS4
    rw [tableAt_first m c t hz, pairAt_first m c t hz]
    iintro ⟨H0, H1, H2, H3, H4, H5, H6, H7, H8, H9, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [Phi_castSucc m c t, Phi_pos m c _ _ hz]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (table m c) (pairBefore m c t.val (Nat.le_of_lt t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    isplitl [HS4]; · iexact HS4
    rw [tableAt_later m c t hz, pairAt_later c t hz]
    iintro ⟨H0, H1, H2, H3, H4, H5, H6, H7, H8, H9, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives the class invariant back, the contents of the scratch forgotten. -/
theorem hout (c : Dev nD) : (dats m 0 c).Φ (Fin.last cfg0.N) ⊢ Pipeline.ΦA spec0 c := by
  have ht : (Fin.last cfg0.N).val ≠ 0 := by rw [Fin.val_last]; have : cfg0.N = 4 := N_0; omega
  rw [show (dats m 0 c).Φ (Fin.last cfg0.N) = Phi m c (Fin.last cfg0.N).val (Nat.le_of_lt_succ (Fin.last cfg0.N).isLt) from rfl, Phi_pos m c _ _ ht, PhiA_eq]
  iintro ⟨⟨HS0, HS1, HS2, HS3, HS4⟩, Hg⟩
  isplitl [HS0 HS1 HS2 HS3 HS4]
  · isplitl [HS0]; · iexists _; iexact HS0
    isplitl [HS1]; · iexact HS1
    isplitl [HS2]; · iexact HS2
    isplitl [HS3]; · iexists _; iexact HS3
    iexists _; iexact HS4
  iexact Hg

/-! ## The run -/

set_option backward.isDefEq.respectTransparency.types false in
set_option maxHeartbeats 800000 in
/-- Every run of the program ends with each array of the region at what the proof data computes, every other buffer as the
    lines after the region leave it, and every semaphore counter at zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- Every run ends with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_quiescent m ρ))

end Cert.KernelIdeal.Lstm

end
-- ==== Proof.Math.Args.lean ====
/- The problem's arguments as the programs hold them, arrays over indices, read as `Params`; and what the precondition
   says of them. -/
module

public import proofs.«01_k».proof.Proof.Math.Spec
public import Idealize.ShloMosaic.Lib.Pointwise

@[expose] public section

noncomputable section

namespace Cert.Lstm

open Idealize.ShloMosaic

/-- The parameters ten argument arrays stand for. A token word is read as the row it names. -/
def paramsOf (a0 : IVec ⟨2, ![32, 512]⟩ 32) (a1 : FVec Ideal ⟨2, ![256, 256]⟩ .f32) (a2 : FVec Ideal ⟨2, ![2048, 256]⟩ .f32)
    (a3 : FVec Ideal ⟨2, ![2048, 512]⟩ .f32) (a4 a5 : FVec Ideal ⟨1, ![2048]⟩ .f32) (a6 a7 : FVec Ideal ⟨1, ![512]⟩ .f32)
    (a8 : FVec Ideal ⟨2, ![256, 512]⟩ .f32) (a9 : FVec Ideal ⟨1, ![256]⟩ .f32) : Params where
  tok b s := ⟨(a0 (ix2 b s)).toNat % 256, Nat.mod_lt _ (by decide)⟩
  emb r k := a1 (ix2 r k)
  wih j k := a2 (ix2 j k)
  whh j u := a3 (ix2 j u)
  bih j := a4 (ix1 j)
  bhh j := a5 (ix1 j)
  gam u := a6 (ix1 u)
  bet u := a7 (ix1 u)
  wh v u := a8 (ix2 v u)
  bh v := a9 (ix1 v)

/-- Every token word names a row of the table. -/
def InRange (a0 : IVec ⟨2, ![32, 512]⟩ 32) : Prop := ∀ (b : Fin 32) (s : Fin 512), (a0 (ix2 b s)).toNat < 256

/-- The head's weights are real numbers, and of each feature the gain or the shift is. -/
def RealHead (p : Params) : Prop := (∀ v u, IsReal (p.wh v u)) ∧ ∀ u, IsReal (p.gam u) ∨ IsReal (p.bet u)

/-- The logits as an array over batch row, position and vocabulary entry. -/
def logitsArr (p : Params) : FVec Ideal ⟨3, ![32, 512, 256]⟩ .f32 := fun i =>
  logit p ⟨(i 0).val, (i 0).isLt⟩ (i 1).val ⟨(i 2).val, (i 2).isLt⟩

/-- A state as an array over batch row and hidden unit. -/
def stateArr (s : State) : FVec Ideal ⟨2, ![32, 512]⟩ .f32 := fun i => s ⟨(i 0).val, (i 0).isLt⟩ ⟨(i 1).val, (i 1).isLt⟩

/-- A state as an array with the axis of the single layer in front. -/
def layerArr (s : State) : FVec Ideal ⟨3, ![1, 32, 512]⟩ .f32 := fun i =>
  s ⟨(i 1).val, (i 1).isLt⟩ ⟨(i 2).val, (i 2).isLt⟩

end Cert.Lstm
-- ==== Proof.KernelIdeal.Entry.lean ====
/- What the kernel's blocks hold when the region is entered: the arguments, transposed, reshaped and combined by the host
   operations before the region, read at an index. -/
module

public import proofs.«01_k».proof.Proof.KernelIdeal.Block
public import proofs.«01_k».proof.Proof.KernelIdeal.Launch
public import proofs.«01_k».proof.Proof.Math.Args
public import Idealize.ShloMosaic.Lib.Pipeline.ValueKit

@[expose] public section

set_option maxRecDepth 16384

noncomputable section

namespace Cert.KernelIdeal.Lstm

open Cert.KernelIdeal.Gen Cert.Lstm
open Idealize.ShloMosaic Idealize.ShloMosaic.TcCoe

variable (m : (ℓ : Loc nD τ sig) → Buf (Elt Ideal) ℓ) (c : Dev nD)

/-- The token words as launched. -/
abbrev tokens : IVec S32x512 32 := m ((c : Thread nD τ).loc main_arg0)

/-- The parameters the kernel's arguments stand for. -/
def params : Params :=
  paramsOf (tokens m c) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-! ## The arrays the host operations before the region leave -/

/-- The token array: block, step in the block, batch row. -/
theorem V_v3 (n : Fin 4) (k : Fin 128) (b : Fin 32) :
    V m c main_call0_v3 (ix3 n k b) = tokens m c (ix2 b ⟨128 * n.val + k.val, by omega⟩) := by
  simp only [V, V0, hostOps0, List.flatten_cons, List.flatten_nil, List.append_nil]
  after_results
  simp -implicitDefEqProofs only [StableHlo.TRef.toBuf, StableHlo.TRef.ofBuf, cast_cast, cast_eq]
  clean_types
  pointwise
  exact congrArg (fun q => tokens m c (ix2 b q)) (Fin.ext (by show n.val * 128 + k.val = 128 * n.val + k.val; omega))

/-- The token weights, transposed. -/
theorem V_v4 (k : Fin 256) (j : Fin 2048) : V m c main_call0_v4 (ix2 k j) = (params m c).wih j k := by
  simp only [V, V0, hostOps0, List.flatten_cons, List.flatten_nil, List.append_nil]
  after_results
  simp -implicitDefEqProofs only [StableHlo.TRef.toBuf, StableHlo.TRef.ofBuf, cast_cast, cast_eq]
  clean_types
  pointwise
  rfl

/-- The state weights, transposed. -/
theorem V_v5 (u : Fin 512) (j : Fin 2048) : V m c main_call0_v5 (ix2 u j) = (params m c).whh j u := by
  simp only [V, V0, hostOps0, List.flatten_cons, List.flatten_nil, List.append_nil]
  after_results
  simp -implicitDefEqProofs only [StableHlo.TRef.toBuf, StableHlo.TRef.ofBuf, cast_cast, cast_eq]
  clean_types
  pointwise
  rfl

/-- The two biases of a gate, added. -/
theorem V_v1 (j : Fin 2048) : V m c main_call0_v1 (ix2 0 j) = (params m c).bih j + (params m c).bhh j := by
  simp only [V, V0, hostOps0, List.flatten_cons, List.flatten_nil, List.append_nil]
  after_results
  simp -implicitDefEqProofs only [StableHlo.TRef.toBuf, StableHlo.TRef.ofBuf, cast_cast, cast_eq]
  clean_types
  pointwise
  rfl

/-- The head's weights, transposed, times the gain. -/
theorem V_v9 (u : Fin 512) (v : Fin 256) : V m c main_call0_v9 (ix2 u v) = (params m c).gam u * (params m c).wh v u := by
  simp only [V, V0, hostOps0, List.flatten_cons, List.flatten_nil, List.append_nil]
  after_results
  simp -implicitDefEqProofs only [StableHlo.TRef.toBuf, StableHlo.TRef.ofBuf, cast_cast, cast_eq]
  clean_types
  pointwise
  rfl

/-- The head's bias plus the shift's share. -/
theorem V_v13 (v : Fin 256) :
    V m c main_call0_v13 (ix2 0 v) = (params m c).bh v + ∑ u : Fin 512, (params m c).bet u * (params m c).wh v u := by
  simp only [V, V0, hostOps0, List.flatten_cons, List.flatten_nil, List.append_nil]
  after_results
  simp -implicitDefEqProofs only [StableHlo.TRef.toBuf, StableHlo.TRef.ofBuf, cast_cast, cast_eq]
  clean_types
  pointwise
  rfl

/-! ## The blocks -/

/-- The whole-array windows sit at block (0, 0) at every point. -/
theorem index_1 : ∀ t, win0_1.index t = ![0, 0] := by decide +kernel
/-- The window of the token weights sits at block (0, 0) at every point. -/
theorem index_2 : ∀ t, win0_2.index t = ![0, 0] := by decide +kernel
/-- The window of the state weights sits at block (0, 0) at every point. -/
theorem index_3 : ∀ t, win0_3.index t = ![0, 0] := by decide +kernel
/-- The window of the gates' biases sits at block (0, 0) at every point. -/
theorem index_4 : ∀ t, win0_4.index t = ![0, 0] := by decide +kernel
/-- The window of the head's weights sits at block (0, 0) at every point. -/
theorem index_5 : ∀ t, win0_5.index t = ![0, 0] := by decide +kernel
/-- The window of the head's bias sits at block (0, 0) at every point. -/
theorem index_6 : ∀ t, win0_6.index t = ![0, 0] := by decide +kernel

/-- The tokens' window sits at block `t` at point `t`. -/
theorem index_0 (t : Fin cfg0.N) : win0_0.index t = ![t.val, 0, 0] := by revert t; decide +kernel

/-- The block of the embedding table is the table. -/
theorem iblk1_apply (t : Fin cfg0.N) (r k : Fin 256) : iblk m c 1 t (ix2 r k) = (params m c).emb r k := by
  blk_point [iblk, V, index_1 t, params, paramsOf]

/-- The block of the token weights. -/
theorem iblk2_apply (t : Fin cfg0.N) (k : Fin 256) (j : Fin 2048) : iblk m c 2 t (ix2 k j) = (params m c).wih j k :=
  (show _ = V m c main_call0_v4 (ix2 k j) by blk_ext [iblk, index_2 t]).trans (V_v4 m c k j)

/-- The block of the state weights. -/
theorem iblk3_apply (t : Fin cfg0.N) (u : Fin 512) (j : Fin 2048) : iblk m c 3 t (ix2 u j) = (params m c).whh j u :=
  (show _ = V m c main_call0_v5 (ix2 u j) by blk_ext [iblk, index_3 t]).trans (V_v5 m c u j)

/-- The block of the gates' biases. -/
theorem iblk4_apply (t : Fin cfg0.N) (j : Fin 2048) :
    iblk m c 4 t (ix2 0 j) = (params m c).bih j + (params m c).bhh j :=
  (show _ = V m c main_call0_v1 (ix2 0 j) by blk_ext [iblk, index_4 t]).trans (V_v1 m c j)

/-- The block of the head's weights. -/
theorem iblk5_apply (t : Fin cfg0.N) (u : Fin 512) (v : Fin 256) :
    iblk m c 5 t (ix2 u v) = (params m c).gam u * (params m c).wh v u :=
  (show _ = V m c main_call0_v9 (ix2 u v) by blk_ext [iblk, index_5 t]).trans (V_v9 m c u v)

/-- The block of the head's bias. -/
theorem iblk6_apply (t : Fin cfg0.N) (v : Fin 256) :
    iblk m c 6 t (ix2 0 v) = (params m c).bh v + ∑ u : Fin 512, (params m c).bet u * (params m c).wh v u :=
  (show _ = V m c main_call0_v13 (ix2 0 v) by blk_ext [iblk, index_6 t]).trans (V_v13 m c v)

/-- Point `t`'s block of tokens: step `k` of batch row `b` is position `128 t + k`. -/
theorem iblk0_apply (t : Fin cfg0.N) (k : Fin 128) (b : Fin 32) :
    iblk m c 0 t (ix3 0 k b) = tokens m c (ix2 b ⟨128 * t.val + k.val, by have := Nat.lt_of_lt_of_eq t.isLt N_0; omega⟩) :=
  (show _ = V m c main_call0_v3 (ix3 ⟨t.val, Nat.lt_of_lt_of_eq t.isLt N_0⟩ k b) by blk_ext [iblk, index_0 t]).trans
    (V_v3 m c _ k b)

end Cert.KernelIdeal.Lstm
-- ==== Proof.KernelIdeal.States.lean ====
/- What the kernel's blocks leave: at every grid point the pair holds the recurrence's states, and the block of logits
   holds the problem's logits. -/
module

public import proofs.«01_k».proof.Proof.KernelIdeal.Entry

@[expose] public section

set_option maxRecDepth 16384

noncomputable section

namespace Cert.KernelIdeal.Lstm

open Cert.KernelIdeal.Gen Cert.Lstm
open Idealize.ShloMosaic Idealize.ShloMosaic.TcCoe

variable (m : (ℓ : Loc nD τ sig) → Buf (Elt Ideal) ℓ) (c : Dev nD)

/-- The token table: what each gate takes of each token, with both biases. -/
theorem table_apply (r : Fin 256) (j : Fin 2048) :
    table m c (ix2 r j) = ∑ k : Fin 256, (params m c).emb r k * (params m c).wih j k
      + ((params m c).bih j + (params m c).bhh j) := by
  unfold table
  rw [pay2_apply, iblk4_apply]
  exact congrArg (· + _) (Finset.sum_congr rfl fun k _ => by rw [iblk1_apply, iblk2_apply])

/-- Point `t`'s gate rows: row `r` belongs to position `128 t + r / 32` of batch row `r % 32`. -/
theorem rows_apply (hr : InRange (tokens m c)) (t : Fin cfg0.N) (r : Fin 4096) (j : Fin 2048) :
    k0_pay5 (iblk m c 0 t) (table m c) (ix2 r j)
      = fromToken (params m c) (128 * t.val + r.val / 32) ⟨r.val % 32, by omega⟩ j
        + ((params m c).bih j + (params m c).bhh j) := by
  have ht : t.val < 4 := Nat.lt_of_lt_of_eq t.isLt N_0
  rw [pay5_apply _ _ r j ((params m c).tok ⟨r.val % 32, by omega⟩ ⟨(128 * t.val + r.val / 32) % 512, Nat.mod_lt _ (by decide)⟩),
    table_apply]
  · rfl
  · rw [iblk0_apply]
    have e : (⟨(128 * t.val + r.val / 32) % 512, Nat.mod_lt _ (by decide)⟩ : Fin 512)
        = ⟨128 * t.val + r.val / 32, by omega⟩ := Fin.ext (Nat.mod_eq_of_lt (by omega))
    rw [e]
    have h := hr ⟨r.val % 32, by omega⟩ ⟨128 * t.val + r.val / 32, by omega⟩
    refine BitVec.eq_of_toNat_eq ?_
    rw [BitVec.toNat_ofNat]
    show _ = (_ % 256) % _
    rw [Nat.mod_eq_of_lt h]
    exact (Nat.mod_eq_of_lt (by omega)).symm

/-- The states before point `n` are those after `128 n` steps. -/
theorem pairBefore_holds (hr : InRange (tokens m c)) : ∀ (n : ℕ) (h : n ≤ cfg0.N),
    Holds (pairBefore m c n h) (st (params m c) (128 * n))
  | 0, _ => holds_zero _
  | n + 1, h => carry_holds (n := 128 * n) (iblk3_apply m c ⟨n, h⟩) (pairBefore_holds hr n (Nat.le_of_lt h))
      (rows_apply m c hr ⟨n, h⟩) 128 le_rfl

/-- The states after the last point are the last states. -/
theorem pairOut_last (hr : InRange (tokens m c)) (t : Fin cfg0.N) (ht : t.val = 3) :
    Holds (pairOut m c t) (st (params m c) 512) := by
  have h := pairBefore_holds m c hr (t.val + 1) t.isLt
  rwa [show 128 * (t.val + 1) = 512 by omega] at h

/-- Point `t`'s block of logits: step `k` is position `128 t + k`. -/
theorem logitsOut_apply (hr : InRange (tokens m c)) (hh : RealHead (params m c)) (t : Fin cfg0.N)
    (b : Fin 32) (k : Fin 128) (v : Fin 256) :
    logitsOut m c t (ix3 b k v) = logit (params m c) b (128 * t.val + k.val) v :=
  logits_apply (n := 128 * t.val)
    (carry_holds (iblk3_apply m c t) (pairBefore_holds m c hr t.val (Nat.le_of_lt t.isLt)) (rows_apply m c hr t))
    (iblk5_apply m c t) (iblk6_apply m c t) hh.1 hh.2 b k v

end Cert.KernelIdeal.Lstm
-- ==== Proof.KernelIdeal.Results.lean ====
/- What the kernel's result arrays hold after the run: the logits, and the last hidden and cell state. -/
module

public import proofs.«01_k».proof.Proof.KernelIdeal.States

@[expose] public section

set_option maxRecDepth 16384

noncomputable section

namespace Cert.KernelIdeal.Lstm

open Cert.KernelIdeal.Gen Cert.Lstm
open Idealize.ShloMosaic Idealize.ShloMosaic.TcCoe

variable (m : (ℓ : Loc nD τ sig) → Buf (Elt Ideal) ℓ) (c : Dev nD)

/-- The logits' window sits at block `t` of the positions at point `t`. -/
theorem index_7 (t : Fin cfg0.N) : win0_7.index t = ![0, t.val, 0] := by revert t; decide +kernel
/-- The window of the hidden state sits at block (0, 0) at every point. -/
theorem index_8 : ∀ t, win0_8.index t = ![0, 0] := by decide +kernel
/-- The window of the cell state sits at block (0, 0) at every point. -/
theorem index_9 : ∀ t, win0_9.index t = ![0, 0] := by decide +kernel

/-- The last grid point. -/
abbrev last : Fin cfg0.N := ⟨3, by rw [show cfg0.N = 4 from N_0]; decide⟩

/-- The array of logits. -/
theorem logits_array (hr : InRange (tokens m c)) (hh : RealHead (params m c)) :
    (dats m 0 c).arrAt 7 cfg0.N = logitsArr (params m c) := by
  refine (dats m 0 c).arrAt_eq_of_covers 7 _ (by decide +kernel) fun t hf y => ?_
  blk_simp
  rw [after_7]
  have ht : t.val < 4 := Nat.lt_of_lt_of_eq t.isLt N_0
  obtain ⟨b, k, v, rfl⟩ : ∃ (b : Fin 32) (k : Fin 128) (v : Fin 256), y = ix3 b k v := ⟨_, _, _, eq_ix3 y⟩
  have e : (win0_7.blk t).view.emb (ix3 b k v) = ix3 b (⟨128 * t.val + k.val, by omega⟩ : Fin 512) v := by
    blk_ext [index_7 t]
  exact (logitsOut_apply m c hr hh t b k v).trans (congrArg (logitsArr (params m c)) e).symm

/-- The array of the last hidden state. -/
theorem hidden_array (hr : InRange (tokens m c)) :
    (dats m 0 c).arrAt 8 cfg0.N = stateArr (st (params m c) 512).1 := by
  refine (dats m 0 c).arrAt_eq_of_after_last 8 last (by decide +kernel) _ fun y => ?_
  blk_simp
  rw [after_8]
  obtain ⟨b, u, rfl⟩ : ∃ (b : Fin 32) (u : Fin 512), y = ix2 b u := ⟨_, _, eq_ix2 y⟩
  exact (pairOut_last m c hr last rfl b u).1

/-- The array of the last cell state. -/
theorem cell_array (hr : InRange (tokens m c)) :
    (dats m 0 c).arrAt 9 cfg0.N = stateArr (st (params m c) 512).2 := by
  refine (dats m 0 c).arrAt_eq_of_after_last 9 last (by decide +kernel) _ fun y => ?_
  blk_simp
  rw [after_9]
  obtain ⟨b, u, rfl⟩ : ∃ (b : Fin 32) (u : Fin 512), y = ix2 b u := ⟨_, _, eq_ix2 y⟩
  exact (pairOut_last m c hr last rfl b u).2

/-- An array with an axis of size one put in front. -/
theorem layer_of_state (s : State) (h : S32x512.BroadcastsInDim S1x32x512 (![1, 2] : Fin 2 → Fin S1x32x512.rank)) :
    broadcastInDim S1x32x512 ![1, 2] h (stateArr s) = layerArr s := by
  funext i
  obtain ⟨a, b, u, rfl⟩ : ∃ (a : Fin 1) (b : Fin 32) (u : Fin 512), i = ix3 a b u := ⟨_, _, _, eq_ix3 i⟩
  pointwise
  rfl

/-- No two windows stage the same array. -/
theorem arrays_distinct : Function.Injective (Pipeline.arrRef spec0) := by decide

/-- The second result after the operations that follow the region. -/
theorem tail_hidden (hr : InRange (tokens m c)) :
    Pipeline.afterTail₀ cfgs (dats m) 0 (V0 m) [hostOps1] c main_v0_1 = layerArr (st (params m c) 512).1 := by
  unfold Pipeline.afterTail₀
  simp only [hostOps1, List.flatten_cons, List.flatten_nil, List.append_nil]
  after_results
  simp -implicitDefEqProofs only [StableHlo.TRef.toBuf, StableHlo.TRef.ofBuf, cast_cast, cast_eq]
  have e := (Pipeline.withArrays_arr spec0 arrays_distinct c (V0 m c) (fun w => (dats m 0 c).arrAt w cfg0.N) 8).trans
    (hidden_array m c hr)
  exact (congrArg (broadcastInDim S1x32x512 ![1, 2] bcast_S32x512_S1x32x512_1_2) e).trans (layer_of_state _ _)

/-- The third result after the operations that follow the region. -/
theorem tail_cell (hr : InRange (tokens m c)) :
    Pipeline.afterTail₀ cfgs (dats m) 0 (V0 m) [hostOps1] c main_v0_2 = layerArr (st (params m c) 512).2 := by
  unfold Pipeline.afterTail₀
  simp only [hostOps1, List.flatten_cons, List.flatten_nil, List.append_nil]
  after_results
  simp -implicitDefEqProofs only [StableHlo.TRef.toBuf, StableHlo.TRef.ofBuf, cast_cast, cast_eq]
  have e := (Pipeline.withArrays_arr spec0 arrays_distinct c (V0 m c) (fun w => (dats m 0 c).arrAt w cfg0.N) 9).trans
    (cell_array m c hr)
  exact (congrArg (broadcastInDim S1x32x512 ![1, 2] bcast_S32x512_S1x32x512_1_2) e).trans (layer_of_state _ _)

/-- The kernel runs, ends with the logits and the last states in its results, and leaves its arguments as launched. -/
theorem results (ρ : Dev nD → PrngReg) (hr : ∀ c, InRange (tokens m c)) (hh : ∀ c, RealHead (params m c)) :
    θ_run (defs (F := Ideal)) (onTc (τ := τ) (main (F := Ideal))) ⟨m, fun _ => 0, ρ⟩ (fun r => ∀ c : Dev nD,
      r.2.mem ((c.tc : Thread nD τ).loc main_v0_0) = logitsArr (params m c)
      ∧ r.2.mem ((c.tc : Thread nD τ).loc main_v0_1) = layerArr (st (params m c) 512).1
      ∧ r.2.mem ((c.tc : Thread nD τ).loc main_v0_2) = layerArr (st (params m c) 512).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).1 7).trans (logits_array m c (hr c) (hh c)),
      ((h c).2 main_v0_1 (Pipeline.mem_restRefs_of main_v0_1 (by decide) (by decide))).trans (tail_hidden m c (hr c)),
      ((h c).2 main_v0_2 (Pipeline.mem_restRefs_of main_v0_2 (by decide) (by decide))).trans (tail_cell m c (hr c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Lstm
-- ==== Proof.ReferenceIdeal.Frame.lean ====
/- The reference program runs, leaves its arguments alone, and (declaring no semaphore) ends with no counter raised. -/
module

public import proofs.«01_k».proof.Proof.Gen.ReferenceIdeal.Run
public import Idealize.ShloMosaic.Lib.Claim
public import Idealize.ShloMosaic.Lib.Quiescent

@[expose] public section

noncomputable section

namespace Cert.ReferenceIdeal.Lstm

open Cert.ReferenceIdeal Cert.ReferenceIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- Every run ends with the argument arrays unchanged and every semaphore counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => (h c).2.2.2, sem_eq_zero_of_no_sems (by decide) r.2⟩) (Value.run m ρ)

end Cert.ReferenceIdeal.Lstm

end
-- ==== Proof.ReferenceIdeal.Step.lean ====
/- One trip of the reference's loop: from the buffers that hold the states before step `n` to those after it. -/
module

public import proofs.«01_k».proof.Proof.ReferenceIdeal.Frame
public import proofs.«01_k».proof.Proof.Math.Args
public import Idealize.ShloMosaic.Lib.Pointwise
public import Idealize.ShloMosaic.Lib.Tactic.CleanTypes

@[expose] public section

set_option maxRecDepth 16384

noncomputable section

namespace Cert.ReferenceIdeal.Lstm

open Cert.ReferenceIdeal Cert.ReferenceIdeal.Gen Cert.ReferenceIdeal.Value Cert.Lstm
open Idealize.ShloMosaic Idealize.ShloMosaic.TcCoe Idealize.ShloMosaic.StableHlo

/-- What the loop's buffers hold before trip `n`: the embedded tokens by position, the weights and biases, the counter,
    the states after `n` steps, and the hidden states of the steps before. -/
structure Carried (p : Params) (n : ℕ) (V : Valuation τ sig (Elt Ideal)) : Prop where
  x : ∀ (s : Fin 512) (b : Fin 32) (k : Fin 256), V (Proc.devRef .tc main_v5_0) (ix3 s b k) = p.emb (p.tok b s) k
  wih : ∀ (j : Fin 2048) (k : Fin 256), V (Proc.devRef .tc main_v5_1) (ix2 j k) = p.wih j k
  bih : ∀ j : Fin 2048, V (Proc.devRef .tc main_v5_2) (ix1 j) = p.bih j
  whh : ∀ (j : Fin 2048) (u : Fin 512), V (Proc.devRef .tc main_v5_3) (ix2 j u) = p.whh j u
  bhh : ∀ j : Fin 2048, V (Proc.devRef .tc main_v5_4) (ix1 j) = p.bhh j
  ctr : V (Proc.devRef .tc main_v5_5) = fun _ => BitVec.ofNat 32 n
  h : ∀ (b : Fin 32) (u : Fin 512), V (Proc.devRef .tc main_v5_6) (ix2 b u) = (st p n).1 b u
  c : ∀ (b : Fin 32) (u : Fin 512), V (Proc.devRef .tc main_v5_7) (ix2 b u) = (st p n).2 b u
  out : ∀ (s : Fin 512) (b : Fin 32) (u : Fin 512), s.val < n → V (Proc.devRef .tc main_v5_8) (ix3 s b u) = (st p (s.val + 1)).1 b u

/-- The three starts of a row read or written at the counter. -/
abbrev startAt (V : Valuation τ sig (Elt Ideal)) : Fin 3 → ℤ :=
  fun k => (((![V (Proc.devRef .tc main_v5_5), constantI S_ 32 0#32, constantI S_ 32 0#32] : Fin 3 → (⟨S_, .i32⟩ : BufTy).Contents (Elt Ideal))) k (Shape.Idx.first h_S_)).toInt

variable {p : Params} {n : ℕ} {V : Valuation τ sig (Elt Ideal)}

/-- The row's start is the trip's number. -/
theorem start_0 (hV : V (Proc.devRef .tc main_v5_5) = fun _ => BitVec.ofNat 32 n) (hn : n < 512) : startAt V 0 = n := by
  show (V (Proc.devRef .tc main_v5_5) (Shape.Idx.first h_S_)).toInt = n
  rw [hV]
  show (BitVec.ofNat 32 n).toInt = n
  rw [BitVec.toInt_eq_toNat_cond, BitVec.toNat_ofNat]
  split <;> omega

/-- The gates of one trip. -/
theorem gate_apply (hV : Carried p n V) (hn : n < 512) (b : Fin 32) (j : Fin 2048) :
    res_main_while0b_v49 V (ix2 b j) = gate p n (st p n).1 b j := by
  have c0 : Host.clampedStart S512x32x256 S1x32x256 rfl (startAt V) 0 = n :=
    Host.clampedStart_of_le (s := S512x32x256) (t := S1x32x256) rfl _ 0 n (start_0 hV.ctr hn) (by show n + 1 ≤ 512; omega)
  have c1 : Host.clampedStart S512x32x256 S1x32x256 rfl (startAt V) 1 = 0 :=
    Host.clampedStart_of_le (s := S512x32x256) (t := S1x32x256) rfl _ 1 0 rfl (by decide)
  have c2 : Host.clampedStart S512x32x256 S1x32x256 rfl (startAt V) 2 = 0 :=
    Host.clampedStart_of_le (s := S512x32x256) (t := S1x32x256) rfl _ 2 0 rfl (by decide)
  unfold res_main_while0b_v49
  clean_types
  pointwise
  clean_types
  simp only [c0, c1, c2, Nat.zero_add, Fin.eta, hV.x, hV.wih, hV.bih, hV.h, hV.whh, hV.bhh]
  simp only [gate, fromToken, Nat.mod_eq_of_lt hn]

/-- The cell state one trip computes. -/
theorem cell_apply (hV : Carried p n V) (hn : n < 512) (b : Fin 32) (u : Fin 512) :
    res_main_while0b_v75 V (ix2 b u) = newC p n (st p n) b u := by
  unfold res_main_while0b_v75
  clean_types
  pointwise
  clean_types
  simp only [gate_apply hV hn, hV.c]
  rfl

/-- The hidden state one trip computes. -/
theorem hidden_apply (hV : Carried p n V) (hn : n < 512) (b : Fin 32) (u : Fin 512) :
    res_main_while0b_v77 V (ix2 b u) = newH p n (st p n) b u := by
  unfold res_main_while0b_v77
  clean_types
  pointwise
  clean_types
  simp only [gate_apply hV hn, cell_apply hV hn]
  rfl

/-- The hidden states collected so far, with this trip's stored at the counter. -/
theorem collected_apply (hV : Carried p n V) (hn : n < 512) (s : Fin 512) (b : Fin 32) (u : Fin 512) (hs : s.val < n + 1) :
    step_main_v5_8 V (ix3 s b u) = (st p (s.val + 1)).1 b u := by
  have c0 : Host.clampedStart S512x32x512 S1x32x512 rfl (startAt V) 0 = n :=
    Host.clampedStart_of_le (s := S512x32x512) (t := S1x32x512) rfl _ 0 n (start_0 hV.ctr hn) (by show n + 1 ≤ 512; omega)
  have c1 : Host.clampedStart S512x32x512 S1x32x512 rfl (startAt V) 1 = 0 :=
    Host.clampedStart_of_le (s := S512x32x512) (t := S1x32x512) rfl _ 1 0 rfl (by decide)
  have c2 : Host.clampedStart S512x32x512 S1x32x512 rfl (startAt V) 2 = 0 :=
    Host.clampedStart_of_le (s := S512x32x512) (t := S1x32x512) rfl _ 2 0 rfl (by decide)
  unfold step_main_v5_8
  show Host.dynamicUpdateSlice (V (Proc.devRef .tc main_v5_8)) (broadcastInDim S1x32x512 ![1, 2] bcast_S32x512_S1x32x512_1_2 (res_main_while0b_v77 V)) (startAt V) updateFits_S512x32x512_S1x32x512 (ix3 s b u) = _
  rw [Host.dynamicUpdateSlice_apply]
  by_cases e : s.val = n
  · rw [dif_pos]
    · pointwise
      clean_types
      simp only [c1, c2, Nat.sub_zero, Fin.eta]
      rw [hidden_apply hV hn, e]
      rfl
    · intro a
      match a with
      | ⟨0, _⟩ =>
        show Host.clampedStart S512x32x512 S1x32x512 rfl (startAt V) 0 ≤ s.val
          ∧ s.val < Host.clampedStart S512x32x512 S1x32x512 rfl (startAt V) 0 + 1
        rw [c0]; omega
      | ⟨1, _⟩ =>
        show Host.clampedStart S512x32x512 S1x32x512 rfl (startAt V) 1 ≤ b.val
          ∧ b.val < Host.clampedStart S512x32x512 S1x32x512 rfl (startAt V) 1 + 32
        rw [c1]; omega
      | ⟨2, _⟩ =>
        show Host.clampedStart S512x32x512 S1x32x512 rfl (startAt V) 2 ≤ u.val
          ∧ u.val < Host.clampedStart S512x32x512 S1x32x512 rfl (startAt V) 2 + 512
        rw [c2]; omega
  · rw [dif_neg]
    · exact hV.out s b u (by omega)
    · intro h
      have h0 := h 0
      have h0' : Host.clampedStart S512x32x512 S1x32x512 rfl (startAt V) 0 ≤ s.val := h0.1
      omega

/-- One trip takes the buffers from before step `n` to before step `n + 1`. -/
theorem step_carried (hV : Carried p n V) (hn : n < 512) : Carried p (n + 1) (STEP V) where
  x := by rw [STEP_main_v5_0]; exact hV.x
  wih := by rw [STEP_main_v5_1]; exact hV.wih
  bih := by rw [STEP_main_v5_2]; exact hV.bih
  whh := by rw [STEP_main_v5_3]; exact hV.whh
  bhh := by rw [STEP_main_v5_4]; exact hV.bhh
  ctr := by
    rw [STEP_main_v5_5]
    show addi (V (Proc.devRef .tc main_v5_5)) (constantI S_ 32 1#32) = _
    rw [hV.ctr]
    funext i
    show BitVec.ofNat 32 n + 1#32 = BitVec.ofNat 32 (n + 1)
    exact (BitVec.ofNat_add n 1).symm
  h := by rw [STEP_main_v5_6]; exact hidden_apply hV hn
  c := by rw [STEP_main_v5_7]; exact cell_apply hV hn
  out := by rw [STEP_main_v5_8]; exact collected_apply hV hn

/-- The buffers after `n` trips. -/
theorem iter_carried (h0 : Carried p 0 V) : ∀ n ≤ 512, Carried p n (STEP^[n] V)
  | 0, _ => h0
  | n + 1, hn => by
    rw [Function.iterate_succ_apply']
    exact step_carried (iter_carried h0 n (by omega)) (by omega)

end Cert.ReferenceIdeal.Lstm
-- ==== Proof.ReferenceIdeal.Take.lean ====
/- Rows of the embedding table taken at token words that name rows of it. -/
module

public import proofs.«01_k».proof.Proof.ReferenceIdeal.Step
public import Idealize.ShloMosaic.Lib.ReduceAll
public import Idealize.ShloMosaic.Lib.StableHlo.Predicate

@[expose] public section

set_option maxRecDepth 16384

noncomputable section

namespace Cert.ReferenceIdeal.Lstm

open Cert.ReferenceIdeal Cert.ReferenceIdeal.Gen Cert.Lstm
open Idealize.ShloMosaic Idealize.ShloMosaic.StableHlo.Predicate

/-- The gather read at an index: the row its start word names, clamped into the table. -/
theorem gather_at {α : Type} (x : S256x256.Idx → α) (idx : IVec S32x512x1 32) (b : Fin 32) (s : Fin 512) (k : Fin 256) :
    Host.gather gather_S256x256_S32x512x1_S32x512x256_2_0_n_n_0_2_1256 x idx (ix3 b s k)
      = x (ix2 ⟨min (idx (ix3 b s 0)).toInt.toNat 255, by omega⟩ k) := by
  have h0 : (0 : Fin S256x256.rank) ∉ gather_S256x256_S32x512x1_S32x512x256_2_0_n_n_0_2_1256.sKept := fun h =>
    ((GatherDims.mem_sKept _ _).mp h).1 (List.mem_singleton.mpr rfl)
  have h1 : (1 : Fin S256x256.rank) ∈ gather_S256x256_S32x512x1_S32x512x256_2_0_n_n_0_2_1256.sKept :=
    (GatherDims.mem_sKept _ _).mpr ⟨fun h => absurd (List.mem_singleton.mp h) (by decide), List.not_mem_nil⟩
  have hm : (0 : Fin S256x256.rank) ∈ gather_S256x256_S32x512x1_S32x512x256_2_0_n_n_0_2_1256.startIndexMap :=
    List.mem_singleton.mpr rfl
  have hn : (1 : Fin S256x256.rank) ∉ gather_S256x256_S32x512x1_S32x512x256_2_0_n_n_0_2_1256.startIndexMap := fun h =>
    absurd (List.mem_singleton.mp h) (by decide)
  unfold Host.gather
  congr 1
  funext a
  refine Fin.ext ?_
  show GatherDims.start _ _ idx a + GatherDims.batchCoord _ _ a + GatherDims.offCoord _ _ a = _
  rw [GatherDims.batchCoord_eq_zero _ _ _ List.not_mem_nil, Nat.add_zero]
  match a with
  | ⟨0, _⟩ =>
    refine (congrArg (_ + ·) (GatherDims.offCoord_eq_zero _ _ _ h0)).trans ?_
    refine (Nat.add_zero _).trans ?_
    refine (dif_pos hm).trans ?_
    have hs : GatherDims.siIdx gather_S256x256_S32x512x1_S32x512x256_2_0_n_n_0_2_1256 (ix3 b s k)
        ⟨List.idxOf (0 : Fin S256x256.rank) gather_S256x256_S32x512x1_S32x512x256_2_0_n_n_0_2_1256.startIndexMap,
          List.idxOf_lt_length_iff.2 hm⟩ = ix3 b s 0 := by
      funext e
      refine Fin.ext ?_
      match e with
      | ⟨0, _⟩ => rfl
      | ⟨1, _⟩ => rfl
      | ⟨2, _⟩ => rfl
    exact congrArg (fun e => min (idx e).toInt.toNat 255) hs
  | ⟨1, _⟩ =>
    refine (congrArg (· + _) (dif_neg hn)).trans ?_
    refine (Nat.zero_add _).trans ?_
    exact (dif_pos h1).trans rfl

/-- A word below 256 wrapped as a possibly negative row number is itself. -/
theorem wrap_word {w : BitVec 32} (hw : w.toNat < 256) :
    Scalar.select (IntOp.cmpi .slt w 0#32) (IntOp.addi w 256#32) w = w := by
  have h : ¬ IntOp.cmpi .slt w 0#32 = 1#1 := by
    rw [slt_iff_toNat (by omega) (by decide)]
    exact Nat.not_lt_zero _
  rcases BitVec.eq_zero_or_eq_one (IntOp.cmpi .slt w 0#32) with e | e
  · rw [e]; rfl
  · exact absurd e h

/-- A word below 256 passes the test for a row of the table. -/
theorem valid_word {w : BitVec 32} (hw : w.toNat < 256) :
    IntOp.andi (IntOp.cmpi .sge w 0#32) (IntOp.cmpi .sle w 255#32) = 1#1 := by
  rw [(sge_iff_toNat (by omega) (by decide)).mpr (Nat.zero_le _),
    (sle_iff_toNat (by omega) (by decide)).mpr (by show w.toNat ≤ 255; omega)]
  rfl

/-- The conjunction of tests that all pass passes. -/
theorem fold_ones {ι : Type} [DecidableEq ι] (S : Finset ι) (f : ι → BitVec 1) (h : ∀ i, f i = 1#1) :
    S.fold IntOp.andi (1#1) f = 1#1 := by
  induction S using Finset.cons_induction with
  | empty => rfl
  | cons i S hi ih => rw [Finset.fold_cons, ih, h]; rfl

end Cert.ReferenceIdeal.Lstm
-- ==== Proof.ReferenceIdeal.Entry.lean ====
/- What the reference's loop starts from: the table's rows taken at the tokens, the weights and biases, zeros. -/
module

public import proofs.«01_k».proof.Proof.ReferenceIdeal.Take

@[expose] public section

set_option maxRecDepth 16384

noncomputable section

namespace Cert.ReferenceIdeal.Lstm

open Cert.ReferenceIdeal Cert.ReferenceIdeal.Gen Cert.ReferenceIdeal.Value Cert.Lstm
open Idealize.ShloMosaic Idealize.ShloMosaic.TcCoe Idealize.ShloMosaic.StableHlo

variable (m : (ℓ : Loc nD τ sig) → Buf (Elt Ideal) ℓ) (c : Dev nD)

/-- The token words as launched. -/
abbrev tokens : IVec S32x512 32 := m ((c : Thread nD τ).loc main_arg0)

/-- The parameters the reference's arguments stand for. -/
def params : Params :=
  paramsOf (tokens m c) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The token weights the loop starts with are the argument. -/
theorem entry_wih (j : Fin 2048) (k : Fin 256) :
    entryContents preI m c (Proc.devRef .tc main_v5_1) (ix2 j k) = (params m c).wih j k := by
  simp only [entryContents, afterL_cons, afterL_nil]
  after_reads_simp
  rfl

/-- The loop's input rows: of the table, those the tokens name, position first. -/
theorem entry_x (hr : InRange (tokens m c)) (s : Fin 512) (b : Fin 32) (k : Fin 256) :
    entryContents preI m c (Proc.devRef .tc main_v5_0) (ix3 s b k) = (params m c).emb ((params m c).tok b s) k := by
  have hw : (tokens m c (ix2 b s)).toNat < 256 := hr b s
  have key (a0 : IVec S32x512 32) (hw : (a0 (ix2 b s)).toNat < 256) (a1 : S256x256.Idx → EReal) (z : EReal) :
      Scalar.select
        (Finset.fold IntOp.andi (1#1)
          (fun _ : Fin 1 => IntOp.andi
            (IntOp.cmpi .sge (Scalar.select (IntOp.cmpi .slt (a0 (ix2 b s)) 0#32) (IntOp.addi (a0 (ix2 b s)) 256#32)
              (a0 (ix2 b s))) 0#32)
            (IntOp.cmpi .sle (Scalar.select (IntOp.cmpi .slt (a0 (ix2 b s)) 0#32) (IntOp.addi (a0 (ix2 b s)) 256#32)
              (a0 (ix2 b s))) 255#32))
          Finset.univ)
        (Host.gather gather_S256x256_S32x512x1_S32x512x256_2_0_n_n_0_2_1256 a1
          (broadcastInDim S32x512x1 ![0, 1] bcast_S32x512_S32x512x1_0_1
            (select (cmpi .slt a0 (broadcastInDim S32x512 ![] bcast_S_S32x512 (constantI S_ 32 0#32)))
              (addi a0 (broadcastInDim S32x512 ![] bcast_S_S32x512 (constantI S_ 32 256#32))) a0))
          (ix3 b s k)) z
        = a1 (ix2 ⟨(a0 (ix2 b s)).toNat % 256, Nat.mod_lt _ (by decide)⟩ k) := by
    rw [wrap_word hw, fold_ones _ _ (fun _ => valid_word hw), gather_at]
    refine congrArg (fun r : Fin 256 => a1 (ix2 r k)) (Fin.ext ?_)
    have he : broadcastInDim S32x512x1 ![0, 1] bcast_S32x512_S32x512x1_0_1
        (select (cmpi .slt a0 (broadcastInDim S32x512 ![] bcast_S_S32x512 (constantI S_ 32 0#32)))
          (addi a0 (broadcastInDim S32x512 ![] bcast_S_S32x512 (constantI S_ 32 256#32))) a0) (ix3 b s 0)
        = a0 (ix2 b s) := by
      pointwise
      exact wrap_word hw
    show min (BitVec.toInt (broadcastInDim S32x512x1 ![0, 1] bcast_S32x512_S32x512x1_0_1
        (select (cmpi .slt a0 (broadcastInDim S32x512 ![] bcast_S_S32x512 (constantI S_ 32 0#32)))
          (addi a0 (broadcastInDim S32x512 ![] bcast_S_S32x512 (constantI S_ 32 256#32))) a0) (ix3 b s 0))).toNat 255
      = (a0 (ix2 b s)).toNat % 256
    rw [he, StableHlo.Predicate.toInt_eq_toNat_of_lt (by omega)]
    omega
  simp only [entryContents, afterL_cons, afterL_nil]
  after_reads_simp
  simp -implicitDefEqProofs only [StableHlo.TRef.toBuf, StableHlo.TRef.ofBuf, cast_cast, cast_eq, id_eq]
  clean_types
  pointwise
  exact key (tokens m c) hw (m ((c : Thread nD τ).loc main_arg1)) _

/-- The token biases the loop starts with are the argument. -/
theorem entry_bih (j : Fin 2048) :
    entryContents preI m c (Proc.devRef .tc main_v5_2) (ix1 j) = (params m c).bih j := by
  simp only [entryContents, afterL_cons, afterL_nil]
  after_reads_simp
  rfl

/-- The state weights the loop starts with are the argument. -/
theorem entry_whh (j : Fin 2048) (u : Fin 512) :
    entryContents preI m c (Proc.devRef .tc main_v5_3) (ix2 j u) = (params m c).whh j u := by
  simp only [entryContents, afterL_cons, afterL_nil]
  after_reads_simp
  rfl

/-- The state biases the loop starts with are the argument. -/
theorem entry_bhh (j : Fin 2048) :
    entryContents preI m c (Proc.devRef .tc main_v5_4) (ix1 j) = (params m c).bhh j := by
  simp only [entryContents, afterL_cons, afterL_nil]
  after_reads_simp
  rfl

/-- The hidden state starts at zero. -/
theorem entry_h (b : Fin 32) (u : Fin 512) :
    entryContents preI m c (Proc.devRef .tc main_v5_6) (ix2 b u) = (st (params m c) 0).1 b u := by
  simp only [entryContents, afterL_cons, afterL_nil]
  after_reads_simp
  simp -implicitDefEqProofs only [StableHlo.TRef.toBuf, StableHlo.TRef.ofBuf, cast_cast, cast_eq, id_eq]
  clean_types
  pointwise
  rfl

/-- The cell state starts at zero. -/
theorem entry_c (b : Fin 32) (u : Fin 512) :
    entryContents preI m c (Proc.devRef .tc main_v5_7) (ix2 b u) = (st (params m c) 0).2 b u := by
  simp only [entryContents, afterL_cons, afterL_nil]
  after_reads_simp
  simp -implicitDefEqProofs only [StableHlo.TRef.toBuf, StableHlo.TRef.ofBuf, cast_cast, cast_eq, id_eq]
  clean_types
  pointwise
  rfl

/-- What the loop carries before its first trip. -/
theorem entry_carried (hr : InRange (tokens m c)) : Carried (params m c) 0 (entryContents preI m c) where
  x := entry_x m c hr
  wih := entry_wih m c
  bih := entry_bih m c
  whh := entry_whh m c
  bhh := entry_bhh m c
  ctr := ctr_entry m c
  h := entry_h m c
  c := entry_c m c
  out _ _ _ h := absurd h (Nat.not_lt_zero _)

end Cert.ReferenceIdeal.Lstm
-- ==== Proof.ReferenceIdeal.Results.lean ====
/- What the reference's results hold after it has run: the logits and the last states of the recurrence. -/
module

public import proofs.«01_k».proof.Proof.ReferenceIdeal.Entry

@[expose] public section

set_option maxRecDepth 16384

noncomputable section

namespace Cert.ReferenceIdeal.Lstm

open Cert.ReferenceIdeal Cert.ReferenceIdeal.Gen Cert.ReferenceIdeal.Value Cert.Lstm
open Idealize.ShloMosaic Idealize.ShloMosaic.TcCoe Idealize.ShloMosaic.StableHlo Idealize.SL.Sem

variable (m : (ℓ : Loc nD τ sig) → Buf (Elt Ideal) ℓ) (c : Dev nD)

/-- The buffers after the loop's last trip. -/
abbrev finished : Valuation τ sig (Elt Ideal) := STEP^[512] (entryContents preI m c)

/-- What the loop has carried to its end. -/
theorem finished_carried (hr : InRange (tokens m c)) : Carried (params m c) 512 (finished m c) :=
  iter_carried (entry_carried m c hr) 512 (le_refl _)

/-- The head applied to the buffer of hidden states gives the logits. -/
theorem out_logits {p : Params} {V : Valuation τ sig (Elt Ideal)} (hV : Carried p 512 V)
    (hg : ∀ u : Fin 512, V (Proc.devRef .tc main_arg6) (ix1 u) = p.gam u)
    (hb : ∀ u : Fin 512, V (Proc.devRef .tc main_arg7) (ix1 u) = p.bet u)
    (hw : ∀ (v : Fin 256) (u : Fin 512), V (Proc.devRef .tc main_arg8) (ix2 v u) = p.wh v u)
    (hh : ∀ v : Fin 256, V (Proc.devRef .tc main_arg9) (ix1 v) = p.bh v) : out_main_v35 V = logitsArr p := by
  funext i
  obtain ⟨b, s, v, rfl⟩ : ∃ (b : Fin 32) (s : Fin 512) (v : Fin 256), i = ix3 b s v := ⟨_, _, _, eq_ix3 i⟩
  have ho : ∀ u : Fin 512, V (Proc.devRef .tc main_v5_8) (ix3 s b u) = (st p (s.val + 1)).1 b u :=
    fun u => hV.out s b u s.isLt
  unfold out_main_v35
  clean_types
  pointwise
  clean_types
  simp only [ho, hg, hb, hw, hh]
  rfl

/-- The hidden state with the layer's axis in front. -/
theorem out_hidden {p : Params} {V : Valuation τ sig (Elt Ideal)} (hV : Carried p 512 V) :
    out_main_v36 V = layerArr (st p 512).1 := by
  funext i
  obtain ⟨a, b, u, rfl⟩ : ∃ (a : Fin 1) (b : Fin 32) (u : Fin 512), i = ix3 a b u := ⟨_, _, _, eq_ix3 i⟩
  unfold out_main_v36
  clean_types
  pointwise
  clean_types
  exact hV.h b u

/-- The cell state with the layer's axis in front. -/
theorem out_cell {p : Params} {V : Valuation τ sig (Elt Ideal)} (hV : Carried p 512 V) :
    out_main_v37 V = layerArr (st p 512).2 := by
  funext i
  obtain ⟨a, b, u, rfl⟩ : ∃ (a : Fin 1) (b : Fin 32) (u : Fin 512), i = ix3 a b u := ⟨_, _, _, eq_ix3 i⟩
  unfold out_main_v37
  clean_types
  pointwise
  clean_types
  exact hV.c b u

/-- The first result after the loop. -/
theorem logits_finished (hr : InRange (tokens m c)) : out_main_v35 (finished m c) = logitsArr (params m c) :=
  out_logits (finished_carried m c hr) (fun u => congrFun (iter_main_arg6 m c 512) (ix1 u))
    (fun u => congrFun (iter_main_arg7 m c 512) (ix1 u)) (fun v u => congrFun (iter_main_arg8 m c 512) (ix2 v u))
    (fun v => congrFun (iter_main_arg9 m c 512) (ix1 v))

/-- The reference runs, ends with the logits and the last states in its results, and leaves its arguments as
    launched. -/
theorem results (ρ : Dev nD → PrngReg) (hr : ∀ c, InRange (tokens m c)) :
    θ_run (defs (F := Ideal)) (onTc (τ := τ) (main (F := Ideal))) ⟨m, fun _ => 0, ρ⟩ (fun r => ∀ c : Dev nD,
      r.2.mem ((c : Thread nD τ).loc main_v35) = logitsArr (params m c)
      ∧ r.2.mem ((c : Thread nD τ).loc main_v36) = layerArr (st (params m c) 512).1
      ∧ r.2.mem ((c : Thread nD τ).loc main_v37) = layerArr (st (params m c) 512).2
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)) :=
  (θ_run defs _ _).mono (fun _ h c =>
    ⟨(h c).1.trans (logits_finished m c (hr c)), (h c).2.1.trans (out_hidden (finished_carried m c (hr c))),
      (h c).2.2.1.trans (out_cell (finished_carried m c (hr c))), (h c).2.2.2⟩) (run m ρ)

end Cert.ReferenceIdeal.Lstm
-- ==== Proof.Math.Pre.lean ====
/- What the precondition says of the arguments: the tokens name rows of the table, and the head's weights, and of each
   feature the gain or the shift, are real numbers. -/
module

public import proofs.«01_k».proof.Proof.Math.Args
public import proofs.«01_k».proof.Proof.Gen.Pre_tokens_and_head
public import Idealize.ShloMosaic.Lib.ReduceAll

@[expose] public section

noncomputable section

namespace Cert.Lstm

open Idealize.ShloMosaic Cert.Pre_tokens_and_head

/-- Both bits of a conjunction that is one are one. -/
theorem andi_one {a b : BitVec 1} (h : IntOp.andi a b = 1#1) : a = 1#1 ∧ b = 1#1 := by
  revert h; revert a b; decide

/-- One of two bits whose disjunction is one is one. -/
theorem ori_one {a b : BitVec 1} (h : IntOp.ori a b = 1#1) : a = 1#1 ∨ b = 1#1 := by
  revert h; revert a b; decide

/-- A word that is at least 0 and below 256 read signed is below 256 read unsigned. -/
theorem word_in_range {w : BitVec 32} (h0 : IntOp.cmpi .sge w 0#32 = 1#1) (h1 : IntOp.cmpi .slt w 256#32 = 1#1) :
    w.toNat < 256 := by
  have a := IntOp.cmpi_sge.1 h0
  have b := IntOp.cmpi_slt.1 h1
  rw [show (0#32 : BitVec 32).toInt = 0 by decide] at a
  rw [show (256#32 : BitVec 32).toInt = 256 by decide] at b
  rw [BitVec.toInt_eq_toNat_cond] at a b
  split at a <;> omega

/-- A value whose absolute value is below infinity is a real number. -/
theorem real_of_abs_lt {x : EReal} (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  induction x using EReal.rec with
  | bot => simp [Ideal.cmp] at h
  | coe r => exact ⟨r, rfl⟩
  | top => simp [Ideal.cmp] at h

/-- The predicate's array has one index. -/
instance : Subsingleton S_.Idx := ⟨fun _ _ => funext fun a => a.elim0⟩

/-- The precondition unpacked. -/
theorem pre_spec (a0 : IVec S32x512 32) (a1 : FVec Ideal S256x256 .f32) (a2 : FVec Ideal S2048x256 .f32)
    (a3 : FVec Ideal S2048x512 .f32) (a4 a5 : FVec Ideal S2048 .f32) (a6 a7 : FVec Ideal S512 .f32)
    (a8 : FVec Ideal S256x512 .f32) (a9 : FVec Ideal S256 .f32)
    (h : fn (F := Ideal) a0 a1 a2 a3 a4 a5 a6 a7 a8 a9 = fun _ => 1#1) :
    InRange a0 ∧ RealHead (paramsOf a0 a1 a2 a3 a4 a5 a6 a7 a8 a9) := by
  have h1 := congrFun h (Shape.Idx.first Facts.h_S_)
  unfold fn fn_part1 at h1
  obtain ⟨h2, hg⟩ := andi_one h1
  obtain ⟨ht, hw⟩ := andi_one h2
  refine ⟨fun b s => ?_, fun v u => ?_, fun u => ?_⟩
  · obtain ⟨p, q⟩ := andi_one (Host.reduce_andi_all _ _ _ _ _ ht (ix2 b s))
    exact word_in_range p q
  · exact real_of_abs_lt (Host.reduce_andi_all _ _ _ _ _ hw (ix2 v u))
  · exact (ori_one (Host.reduce_andi_all _ _ _ _ _ hg (ix1 u))).imp real_of_abs_lt real_of_abs_lt

end Cert.Lstm
-- ==== Proof.lean ====
/- The claims of the certificate: the three frames, that the idealised kernel preserves the printed one, and that the
   kernel and the reference compute the same logits and last states over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_tokens_and_head
public import proofs.«01_k».proof.Proof.Kernel.Launch
public import proofs.«01_k».proof.Proof.KernelIdeal.Results
public import proofs.«01_k».proof.Proof.ReferenceIdeal.Results
public import proofs.«01_k».proof.Proof.Math.Pre

@[expose] public section

noncomputable section

namespace Cert.Proof

open Idealize.ShloMosaic Idealize.SL.Sem Cert.Lstm

/-- The kernel's and the reference's results are equal wherever the precondition holds: both are the logits and the last
    states of the recurrence on the parameters the arguments stand for. -/
theorem algebraic : Cert.algebraic_KernelIdeal_ReferenceIdeal_pre_tokens_and_head := by
  intro m g m' g' hpre hargs
  have hspec := fun c => pre_spec _ _ _ _ _ _ _ _ _ _ (hpre c)
  have htok : ∀ c, Cert.ReferenceIdeal.Lstm.tokens m' c = Cert.KernelIdeal.Lstm.tokens m c := fun c => (hargs c).1
  have hpar : ∀ c, Cert.ReferenceIdeal.Lstm.params m' c = Cert.KernelIdeal.Lstm.params m c := fun c => by
    obtain ⟨e0, e1, e2, e3, e4, e5, e6, e7, e8, e9⟩ := hargs c
    unfold Cert.ReferenceIdeal.Lstm.params Cert.KernelIdeal.Lstm.params
    exact congr (congr (congr (congr (congr (congr (congr (congr (congr (congrArg paramsOf e0) e1) e2) e3) e4) e5) e6) e7)
      e8) e9
  refine ⟨fun c => logitsArr (Cert.KernelIdeal.Lstm.params m c),
    fun c => layerArr (st (Cert.KernelIdeal.Lstm.params m c) 512).1,
    fun c => layerArr (st (Cert.KernelIdeal.Lstm.params m c) 512).2,
    Cert.KernelIdeal.Lstm.results m g (fun c => (hspec c).1) (fun c => (hspec c).2), ?_⟩
  have hr : ∀ c, InRange (Cert.ReferenceIdeal.Lstm.tokens m' c) := fun c => by rw [htok c]; exact (hspec c).1
  refine (θ_run Cert.ReferenceIdeal.defs _ _).mono (fun r h c => ?_) (Cert.ReferenceIdeal.Lstm.results m' g' hr)
  have hc := h c
  rw [hpar c] at hc
  exact hc

theorem claim : Cert.Claim := ⟨Cert.Kernel.Gen.facts, Cert.KernelIdeal.Gen.facts, Cert.ReferenceIdeal.Gen.facts,
  Cert.Pre_tokens_and_head.Gen.facts,
  fun m g _ => Cert.Kernel.Lstm.frame m g,
  fun m g _ => Cert.KernelIdeal.Lstm.frame m g,
  fun m g _ => Cert.KernelIdeal.Lstm.frame m g,
  fun m g _ => Cert.ReferenceIdeal.Lstm.frame m g,
  fun m g _ => Cert.ReferenceIdeal.Lstm.frame m g,
  trivial, algebraic⟩

end Cert.Proof

end
